-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x96x96x96 : Shape := ⟨4, ![32, 96, 96, 96]⟩
abbrev S3x96x98 : Shape := ⟨3, ![3, 96, 98]⟩
abbrev S_ : Shape := ⟨0, ![]⟩
abbrev S96x98 : Shape := ⟨2, ![96, 98]⟩
abbrev S32x96x98x98 : Shape := ⟨4, ![32, 96, 98, 98]⟩
abbrev S1x96x96x96 : Shape := ⟨4, ![1, 96, 96, 96]⟩
abbrev S1x96x98 : Shape := ⟨3, ![1, 96, 98]⟩
abbrev S2x96x96x98 : Shape := ⟨4, ![2, 96, 96, 98]⟩
abbrev S2x96x2x98 : Shape := ⟨4, ![2, 96, 2, 98]⟩
abbrev S2 : Shape := ⟨1, ![2]⟩
abbrev S2x2 : Shape := ⟨2, ![2, 2]⟩
abbrev S1 : Shape := ⟨1, ![1]⟩
abbrev S1x96x96x98 : Shape := ⟨4, ![1, 96, 96, 98]⟩
abbrev S96x96x98 : Shape := ⟨3, ![96, 96, 98]⟩
abbrev S1x1 : Shape := ⟨2, ![1, 1]⟩
abbrev S1x96x1x98 : Shape := ⟨4, ![1, 96, 1, 98]⟩
abbrev S96x1x98 : Shape := ⟨3, ![96, 1, 98]⟩
abbrev S96x96x96 : Shape := ⟨3, ![96, 96, 96]⟩
abbrev S9216x96 : Shape := ⟨2, ![9216, 96]⟩
abbrev S9216x98 : Shape := ⟨2, ![9216, 98]⟩
abbrev S96x1x96 : Shape := ⟨3, ![96, 1, 96]⟩
abbrev S96x96 : Shape := ⟨2, ![96, 96]⟩
abbrev S192x96 : Shape := ⟨2, ![192, 96]⟩
abbrev S192x98 : Shape := ⟨2, ![192, 98]⟩
abbrev S1x98 : Shape := ⟨2, ![1, 98]⟩

abbrev nBuf : Space → Nat
  | .hbm => 96
  | .vmem => 7
  | .smem => 0
  | _ => 0

abbrev bufTy : (tb : Table) → Fin (tcTables nBuf tb) → BufTy
  | .hbm, ⟨0, _⟩ => ⟨S32x96x96x96, .f32⟩
  | .hbm, ⟨1, _⟩ => ⟨S3x96x98, .i32⟩
  | .hbm, ⟨2, _⟩ => ⟨S3x96x98, .i32⟩
  | .hbm, ⟨3, _⟩ => ⟨S3x96x98, .i32⟩
  | .hbm, ⟨4, _⟩ => ⟨S_, .i32⟩
  | .hbm, ⟨5, _⟩ => ⟨S3x96x98, .i32⟩
  | .hbm, ⟨6, _⟩ => ⟨S3x96x98, .i1⟩
  | .hbm, ⟨7, _⟩ => ⟨S_, .i32⟩
  | .hbm, ⟨8, _⟩ => ⟨S3x96x98, .i32⟩
  | .hbm, ⟨9, _⟩ => ⟨S3x96x98, .i1⟩
  | .hbm, ⟨10, _⟩ => ⟨S3x96x98, .i1⟩
  | .hbm, ⟨11, _⟩ => ⟨S_, .i32⟩
  | .hbm, ⟨12, _⟩ => ⟨S3x96x98, .i32⟩
  | .hbm, ⟨13, _⟩ => ⟨S3x96x98, .i1⟩
  | .hbm, ⟨14, _⟩ => ⟨S_, .i32⟩
  | .hbm, ⟨15, _⟩ => ⟨S3x96x98, .i32⟩
  | .hbm, ⟨16, _⟩ => ⟨S3x96x98, .i1⟩
  | .hbm, ⟨17, _⟩ => ⟨S3x96x98, .i1⟩
  | .hbm, ⟨18, _⟩ => ⟨S3x96x98, .i1⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .i32⟩
  | .hbm, ⟨23, _⟩ => ⟨S3x96x98, .i32⟩
  | .hbm, ⟨24, _⟩ => ⟨S3x96x98, .i32⟩
  | .hbm, ⟨25, _⟩ => ⟨S3x96x98, .i1⟩
  | .hbm, ⟨26, _⟩ => ⟨S_, .f32⟩
  | .hbm, ⟨27, _⟩ => ⟨S_, .f32⟩
  | .hbm, ⟨28, _⟩ => ⟨S3x96x98, .f32⟩
  | .hbm, ⟨29, _⟩ => ⟨S3x96x98, .f32⟩
  | .hbm, ⟨30, _⟩ => ⟨S3x96x98, .f32⟩
  | .hbm, ⟨31, _⟩ => ⟨S3x96x98, .f32⟩
  | .hbm, ⟨32, _⟩ => ⟨S3x96x98, .f32⟩
  | .hbm, ⟨33, _⟩ => ⟨S_, .i32⟩
  | .hbm, ⟨34, _⟩ => ⟨S3x96x98, .i32⟩
  | .hbm, ⟨35, _⟩ => ⟨S3x96x98, .i1⟩
  | .hbm, ⟨36, _⟩ => ⟨S_, .i32⟩
  | .hbm, ⟨37, _⟩ => ⟨S3x96x98, .i32⟩
  | .hbm, ⟨38, _⟩ => ⟨S3x96x98, .i1⟩
  | .hbm, ⟨39, _⟩ => ⟨S3x96x98, .i1⟩
  | .hbm, ⟨40, _⟩ => ⟨S_, .i32⟩
  | .hbm, ⟨41, _⟩ => ⟨S3x96x98, .i32⟩
  | .hbm, ⟨42, _⟩ => ⟨S3x96x98, .i1⟩
  | .hbm, ⟨43, _⟩ => ⟨S_, .i32⟩
  | .hbm, ⟨44, _⟩ => ⟨S3x96x98, .i32⟩
  | .hbm, ⟨45, _⟩ => ⟨S3x96x98, .i1⟩
  | .hbm, ⟨46, _⟩ => ⟨S3x96x98, .i1⟩
  | .hbm, ⟨47, _⟩ => ⟨S3x96x98, .i1⟩
  | .hbm, ⟨48, _⟩ => ⟨S_, .f32⟩
  | .hbm, ⟨49, _⟩ => ⟨S3x96x98, .f32⟩
  | .hbm, ⟨50, _⟩ => ⟨S3x96x98, .f32⟩
  | .hbm, ⟨51, _⟩ => ⟨S96x98, .i32⟩
  | .hbm, ⟨52, _⟩ => ⟨S96x98, .i32⟩
  | .hbm, ⟨53, _⟩ => ⟨S_, .i32⟩
  | .hbm, ⟨54, _⟩ => ⟨S96x98, .i32⟩
  | .hbm, ⟨55, _⟩ => ⟨S96x98, .i1⟩
  | .hbm, ⟨56, _⟩ => ⟨S_, .i32⟩
  | .hbm, ⟨57, _⟩ => ⟨S96x98, .i32⟩
  | .hbm, ⟨58, _⟩ => ⟨S96x98, .i1⟩
  | .hbm, ⟨59, _⟩ => ⟨S96x98, .i1⟩
  | .hbm, ⟨60, _⟩ => ⟨S_, .i32⟩
  | .hbm, ⟨61, _⟩ => ⟨S96x98, .i32⟩
  | .hbm, ⟨62, _⟩ => ⟨S96x98, .i32⟩
  | .hbm, ⟨63, _⟩ => ⟨S96x98, .i1⟩
  | .hbm, ⟨64, _⟩ => ⟨S96x98, .i1⟩
  | .hbm, ⟨65, _⟩ => ⟨S_, .i32⟩
  | .hbm, ⟨66, _⟩ => ⟨S96x98, .i32⟩
  | .hbm, ⟨67, _⟩ => ⟨S96x98, .i32⟩
  | .hbm, ⟨68, _⟩ => ⟨S96x98, .i1⟩
  | .hbm, ⟨69, _⟩ => ⟨S96x98, .i1⟩
  | .hbm, ⟨70, _⟩ => ⟨S_, .i32⟩
  | .hbm, ⟨71, _⟩ => ⟨S96x98, .i32⟩
  | .hbm, ⟨72, _⟩ => ⟨S96x98, .i1⟩
  | .hbm, ⟨73, _⟩ => ⟨S_, .i32⟩
  | .hbm, ⟨74, _⟩ => ⟨S96x98, .i32⟩
  | .hbm, ⟨75, _⟩ => ⟨S96x98, .i1⟩
  | .hbm, ⟨76, _⟩ => ⟨S96x98, .i1⟩
  | .hbm, ⟨77, _⟩ => ⟨S_, .i32⟩
  | .hbm, ⟨78, _⟩ => ⟨S96x98, .i32⟩
  | .hbm, ⟨79, _⟩ => ⟨S96x98, .i1⟩
  | .hbm, ⟨80, _⟩ => ⟨S_, .i32⟩
  | .hbm, ⟨81, _⟩ => ⟨S96x98, .i32⟩
  | .hbm, ⟨82, _⟩ => ⟨S96x98, .i1⟩
  | .hbm, ⟨83, _⟩ => ⟨S96x98, .i1⟩
  | .hbm, ⟨84, _⟩ => ⟨S96x98, .i1⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S96x98, .f32⟩
  | .hbm, ⟨90, _⟩ => ⟨S96x98, .f32⟩
  | .hbm, ⟨91, _⟩ => ⟨S96x98, .f32⟩
  | .hbm, ⟨92, _⟩ => ⟨S_, .f32⟩
  | .hbm, ⟨93, _⟩ => ⟨S96x98, .f32⟩
  | .hbm, ⟨94, _⟩ => ⟨S96x98, .f32⟩
  | .hbm, ⟨95, _⟩ => ⟨S32x96x98x98, .f32⟩
  | .local _ .vmem, ⟨0, _⟩ => ⟨S1x96x96x96, .f32⟩
  | .local _ .vmem, ⟨1, _⟩ => ⟨S1x96x96x96, .f32⟩
  | .local _ .vmem, ⟨2, _⟩ => ⟨S1x96x98, .f32⟩
  | .local _ .vmem, ⟨3, _⟩ => ⟨S1x96x98, .f32⟩
  | .local _ .vmem, ⟨4, _⟩ => ⟨S96x98, .f32⟩
  | .local _ .vmem, ⟨5, _⟩ => ⟨S2x96x96x98, .f32⟩
  | .local _ .vmem, ⟨6, _⟩ => ⟨S2x96x2x98, .f32⟩
  | _, _ => ⟨S32x96x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_1 : Ref sig .tc := ⟨.hbm, 11, rfl⟩
abbrev main_v8 : Ref sig .tc := ⟨.hbm, 12, rfl⟩
abbrev main_v9 : Ref sig .tc := ⟨.hbm, 13, rfl⟩
abbrev main_c_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_cst_3 : Ref sig .tc := ⟨.hbm, 20, rfl⟩
abbrev main_v14 : Ref sig .tc := ⟨.hbm, 21, rfl⟩
abbrev main_c_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_cst_6 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_call1_v0 : Ref sig .tc := ⟨.hbm, 31, rfl⟩
abbrev main_v19 : Ref sig .tc := ⟨.hbm, 32, rfl⟩
abbrev main_c_7 : Ref sig .tc := ⟨.hbm, 33, rfl⟩
abbrev main_v20 : Ref sig .tc := ⟨.hbm, 34, rfl⟩
abbrev main_v21 : Ref sig .tc := ⟨.hbm, 35, rfl⟩
abbrev main_c_8 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_9 : Ref sig .tc := ⟨.hbm, 40, rfl⟩
abbrev main_v25 : Ref sig .tc := ⟨.hbm, 41, rfl⟩
abbrev main_v26 : Ref sig .tc := ⟨.hbm, 42, rfl⟩
abbrev main_c_10 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_11 : Ref sig .tc := ⟨.hbm, 48, rfl⟩
abbrev main_call2_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_12 : Ref sig .tc := ⟨.hbm, 53, rfl⟩
abbrev main_v34 : Ref sig .tc := ⟨.hbm, 54, rfl⟩
abbrev main_v35 : Ref sig .tc := ⟨.hbm, 55, rfl⟩
abbrev main_c_13 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_14 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_15 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_16 : Ref sig .tc := ⟨.hbm, 70, rfl⟩
abbrev main_v47 : Ref sig .tc := ⟨.hbm, 71, rfl⟩
abbrev main_v48 : Ref sig .tc := ⟨.hbm, 72, rfl⟩
abbrev main_c_17 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_18 : Ref sig .tc := ⟨.hbm, 77, rfl⟩
abbrev main_v52 : Ref sig .tc := ⟨.hbm, 78, rfl⟩
abbrev main_v53 : Ref sig .tc := ⟨.hbm, 79, rfl⟩
abbrev main_c_19 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_20 : Ref sig .tc := ⟨.hbm, 85, rfl⟩
abbrev main_cst_21 : Ref sig .tc := ⟨.hbm, 86, rfl⟩
abbrev main_v58 : Ref sig .tc := ⟨.hbm, 87, rfl⟩
abbrev main_cst_22 : Ref sig .tc := ⟨.hbm, 88, rfl⟩
abbrev main_call3_v0 : Ref sig .tc := ⟨.hbm, 89, rfl⟩
abbrev main_call3_v1 : Ref sig .tc := ⟨.hbm, 90, rfl⟩
abbrev main_v59 : Ref sig .tc := ⟨.hbm, 91, rfl⟩
abbrev main_cst_23 : Ref sig .tc := ⟨.hbm, 92, rfl⟩
abbrev main_call4_v0 : Ref sig .tc := ⟨.hbm, 93, rfl⟩
abbrev main_v60 : Ref sig .tc := ⟨.hbm, 94, rfl⟩
abbrev main_v61 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c2_i32_3 : BitVec 32 := 2#32
  let v8 : BitVec 1 := Scalar.cmpi .sge arg0 c2_i32_3
  let v9 : BitVec 32 := Scalar.extui v8
  let c0_i32_4 : BitVec 32 := 0#32
  let v10 : BitVec 1 := Scalar.cmpi .ne v9 c0_i32_4
  v10

def k0_off1 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off2 (i : grid0.Coords) : Fin 4 → Nat :=
  let arg0 : BitVec 32 := BitVec.ofNat 32 (i 0).val
  let c2_i32_45 : BitVec 32 := 2#32
  let v85 : BitVec 32 := Scalar.subi arg0 c2_i32_45
  let c0_i32_46 : BitVec 32 := 0#32
  let c1_i32_47 : BitVec 32 := 1#32
  let c0_i32_48 : BitVec 32 := 0#32
  ![v85.toNat, 0, 1, 0]
def k0_off3 (i : grid0.Coords) : Fin 4 → Nat :=
  let arg0 : BitVec 32 := BitVec.ofNat 32 (i 0).val
  let c2_i32 : BitVec 32 := 2#32
  let v0 : BitVec 32 := Scalar.remsi arg0 c2_i32
  let c0_i32_49 : BitVec 32 := 0#32
  let c0_i32_50 : BitVec 32 := 0#32
  let c0_i32_51 : BitVec 32 := 0#32
  ![v0.toNat, 0, 0, 0]
def k0_off4 (i : grid0.Coords) : Fin 2 → Nat :=
  let arg0 : BitVec 32 := BitVec.ofNat 32 (i 0).val
  let c2_i32 : BitVec 32 := 2#32
  let v0 : BitVec 32 := Scalar.remsi arg0 c2_i32
  let c0_i32_52 : BitVec 32 := 0#32
  ![v0.toNat, 0]
def k0_off5 (i : grid0.Coords) : Fin 4 → Nat :=
  let arg0 : BitVec 32 := BitVec.ofNat 32 (i 0).val
  let c2_i32_45 : BitVec 32 := 2#32
  let v85 : BitVec 32 := Scalar.subi arg0 c2_i32_45
  let c0_i32_53 : BitVec 32 := 0#32
  let c0_i32_54 : BitVec 32 := 0#32
  let c0_i32_55 : BitVec 32 := 0#32
  ![v85.toNat, 0, 0, 0]
def k0_off6 (i : grid0.Coords) : Fin 4 → Nat :=
  let arg0 : BitVec 32 := BitVec.ofNat 32 (i 0).val
  let c2_i32 : BitVec 32 := 2#32
  let v0 : BitVec 32 := Scalar.remsi arg0 c2_i32
  let c0_i32_56 : BitVec 32 := 0#32
  let c0_i32_57 : BitVec 32 := 0#32
  let c0_i32_58 : BitVec 32 := 0#32
  ![v0.toNat, 0, 0, 0]
def k0_off7 (i : grid0.Coords) : Fin 2 → Nat :=
  let arg0 : BitVec 32 := BitVec.ofNat 32 (i 0).val
  let c2_i32 : BitVec 32 := 2#32
  let v0 : BitVec 32 := Scalar.remsi arg0 c2_i32
  let c1_i32_59 : BitVec 32 := 1#32
  ![v0.toNat, 1]
def k0_off8 (i : grid0.Coords) : Fin 4 → Nat :=
  let arg0 : BitVec 32 := BitVec.ofNat 32 (i 0).val
  let c2_i32_45 : BitVec 32 := 2#32
  let v85 : BitVec 32 := Scalar.subi arg0 c2_i32_45
  let c0_i32_60 : BitVec 32 := 0#32
  let c97_i32_61 : BitVec 32 := 97#32
  let c0_i32_62 : BitVec 32 := 0#32
  ![v85.toNat, 0, 97, 0]
def k0_off9 (i : grid0.Coords) : Fin 4 → Nat :=
  let arg0 : BitVec 32 := BitVec.ofNat 32 (i 0).val
  let c2_i32 : BitVec 32 := 2#32
  let v0 : BitVec 32 := Scalar.remsi arg0 c2_i32
  let c0_i32_63 : BitVec 32 := 0#32
  let c1_i32_64 : BitVec 32 := 1#32
  let c0_i32_65 : BitVec 32 := 0#32
  ![v0.toNat, 0, 1, 0]
def k0_off10 (i : grid0.Coords) : Fin 4 → Nat :=
  let arg0 : BitVec 32 := BitVec.ofNat 32 (i 0).val
  let c2_i32 : BitVec 32 := 2#32
  let v0 : BitVec 32 := Scalar.remsi arg0 c2_i32
  let v18 : Index := Scalar.indexCast v0
  let c0_11 : Index := 0#32
  let c0_12 : Index := 0#32
  let c0_13 : Index := 0#32
  ![v18.toNat, 0, 0, 0]
def k0_off11 (i : grid0.Coords) : Fin 4 → Nat :=
  let arg0 : BitVec 32 := BitVec.ofNat 32 (i 0).val
  let c2_i32 : BitVec 32 := 2#32
  let v0 : BitVec 32 := Scalar.remsi arg0 c2_i32
  let v55 : Index := Scalar.indexCast v0
  let c0_20 : Index := 0#32
  let c0_21 : Index := 0#32
  let c0_22 : Index := 0#32
  ![v55.toNat, 0, 0, 0]
def k0_off12 (i : grid0.Coords) : Fin 4 → Nat :=
  let arg0 : BitVec 32 := BitVec.ofNat 32 (i 0).val
  let c2_i32 : BitVec 32 := 2#32
  let v0 : BitVec 32 := Scalar.remsi arg0 c2_i32
  let v60 : Index := Scalar.indexCast v0
  let c0_23 : Index := 0#32
  let c1 : Index := 1#32
  let c0_24 : Index := 0#32
  ![v60.toNat, 0, 1, 0]
def k0_off13 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off14 (i : grid0.Coords) : Fin 4 → Nat :=
  let arg0 : BitVec 32 := BitVec.ofNat 32 (i 0).val
  let c0_i32_25 : BitVec 32 := 0#32
  let c1_i32 : BitVec 32 := 1#32
  let c0_i32_26 : BitVec 32 := 0#32
  ![arg0.toNat, 0, 1, 0]
def k0_off15 (i : grid0.Coords) : Fin 4 → Nat :=
  let arg0 : BitVec 32 := BitVec.ofNat 32 (i 0).val
  let c2_i32 : BitVec 32 := 2#32
  let v0 : BitVec 32 := Scalar.remsi arg0 c2_i32
  let c0_i32_27 : BitVec 32 := 0#32
  let c0_i32_28 : BitVec 32 := 0#32
  let c0_i32_29 : BitVec 32 := 0#32
  ![v0.toNat, 0, 0, 0]
def k0_off16 (i : grid0.Coords) : Fin 2 → Nat :=
  let arg0 : BitVec 32 := BitVec.ofNat 32 (i 0).val
  let c2_i32 : BitVec 32 := 2#32
  let v0 : BitVec 32 := Scalar.remsi arg0 c2_i32
  let c0_i32_30 : BitVec 32 := 0#32
  ![v0.toNat, 0]
def k0_off17 (i : grid0.Coords) : Fin 4 → Nat :=
  let arg0 : BitVec 32 := BitVec.ofNat 32 (i 0).val
  let c0_i32_31 : BitVec 32 := 0#32
  let c0_i32_32 : BitVec 32 := 0#32
  let c0_i32_33 : BitVec 32 := 0#32
  ![arg0.toNat, 0, 0, 0]
def k0_off18 (i : grid0.Coords) : Fin 4 → Nat :=
  let arg0 : BitVec 32 := BitVec.ofNat 32 (i 0).val
  let c2_i32 : BitVec 32 := 2#32
  let v0 : BitVec 32 := Scalar.remsi arg0 c2_i32
  let c0_i32_34 : BitVec 32 := 0#32
  let c0_i32_35 : BitVec 32 := 0#32
  let c0_i32_36 : BitVec 32 := 0#32
  ![v0.toNat, 0, 0, 0]
def k0_off19 (i : grid0.Coords) : Fin 2 → Nat :=
  let arg0 : BitVec 32 := BitVec.ofNat 32 (i 0).val
  let c2_i32 : BitVec 32 := 2#32
  let v0 : BitVec 32 := Scalar.remsi arg0 c2_i32
  let c1_i32_37 : BitVec 32 := 1#32
  ![v0.toNat, 1]
def k0_off20 (i : grid0.Coords) : Fin 4 → Nat :=
  let arg0 : BitVec 32 := BitVec.ofNat 32 (i 0).val
  let c0_i32_38 : BitVec 32 := 0#32
  let c97_i32_39 : BitVec 32 := 97#32
  let c0_i32_40 : BitVec 32 := 0#32
  ![arg0.toNat, 0, 97, 0]
def k0_off21 (i : grid0.Coords) : Fin 4 → Nat :=
  let arg0 : BitVec 32 := BitVec.ofNat 32 (i 0).val
  let c2_i32 : BitVec 32 := 2#32
  let v0 : BitVec 32 := Scalar.remsi arg0 c2_i32
  let c0_i32_41 : BitVec 32 := 0#32
  let c1_i32_42 : BitVec 32 := 1#32
  let c0_i32_43 : BitVec 32 := 0#32
  ![v0.toNat, 0, 1, 0]
def k0_cond2 (i : grid0.Coords) : BitVec 1 :=
  let arg0 : BitVec 32 := BitVec.ofNat 32 (i 0).val
  let c31_i32 : BitVec 32 := 31#32
  let v82 : BitVec 1 := Scalar.cmpi .eq arg0 c31_i32
  let v83 : BitVec 32 := Scalar.extui v82
  let c0_i32_44 : BitVec 32 := 0#32
  let v84 : BitVec 1 := Scalar.cmpi .ne v83 c0_i32_44
  v84

def k0_off22 (i : grid0.Coords) : Fin 1 → Nat :=
  let c1_i32_45 : BitVec 32 := 1#32
  let arg0 : BitVec 32 := BitVec.ofNat 32 (i 0).val
  let c2_i32 : BitVec 32 := 2#32
  let v0 : BitVec 32 := Scalar.remsi arg0 c2_i32
  let v85 : BitVec 32 := Scalar.subi c1_i32_45 v0
  ![v85.toNat]
def k0_off23 (i : grid0.Coords) : Fin 4 → Nat :=
  let arg0 : BitVec 32 := BitVec.ofNat 32 (i 0).val
  let c1_i32_46 : BitVec 32 := 1#32
  let v86 : BitVec 32 := Scalar.subi arg0 c1_i32_46
  let c0_i32_47 : BitVec 32 := 0#32
  let c1_i32_48 : BitVec 32 := 1#32
  let c0_i32_49 : BitVec 32 := 0#32
  ![v86.toNat, 0, 1, 0]
def k0_off24 (i : grid0.Coords) : Fin 4 → Nat :=
  let c1_i32_45 : BitVec 32 := 1#32
  let arg0 : BitVec 32 := BitVec.ofNat 32 (i 0).val
  let c2_i32 : BitVec 32 := 2#32
  let v0 : BitVec 32 := Scalar.remsi arg0 c2_i32
  let v85 : BitVec 32 := Scalar.subi c1_i32_45 v0
  let c0_i32_50 : BitVec 32 := 0#32
  let c0_i32_51 : BitVec 32 := 0#32
  let c0_i32_52 : BitVec 32 := 0#32
  ![v85.toNat, 0, 0, 0]
def k0_off25 (i : grid0.Coords) : Fin 2 → Nat :=
  let c1_i32_45 : BitVec 32 := 1#32
  let arg0 : BitVec 32 := BitVec.ofNat 32 (i 0).val
  let c2_i32 : BitVec 32 := 2#32
  let v0 : BitVec 32 := Scalar.remsi arg0 c2_i32
  let v85 : BitVec 32 := Scalar.subi c1_i32_45 v0
  let c0_i32_53 : BitVec 32 := 0#32
  ![v85.toNat, 0]
def k0_off26 (i : grid0.Coords) : Fin 4 → Nat :=
  let arg0 : BitVec 32 := BitVec.ofNat 32 (i 0).val
  let c1_i32_46 : BitVec 32 := 1#32
  let v86 : BitVec 32 := Scalar.subi arg0 c1_i32_46
  let c0_i32_54 : BitVec 32 := 0#32
  let c0_i32_55 : BitVec 32 := 0#32
  let c0_i32_56 : BitVec 32 := 0#32
  ![v86.toNat, 0, 0, 0]
def k0_off27 (i : grid0.Coords) : Fin 4 → Nat :=
  let c1_i32_45 : BitVec 32 := 1#32
  let arg0 : BitVec 32 := BitVec.ofNat 32 (i 0).val
  let c2_i32 : BitVec 32 := 2#32
  let v0 : BitVec 32 := Scalar.remsi arg0 c2_i32
  let v85 : BitVec 32 := Scalar.subi c1_i32_45 v0
  let c0_i32_57 : BitVec 32 := 0#32
  let c0_i32_58 : BitVec 32 := 0#32
  let c0_i32_59 : BitVec 32 := 0#32
  ![v85.toNat, 0, 0, 0]
def k0_off28 (i : grid0.Coords) : Fin 2 → Nat :=
  let c1_i32_45 : BitVec 32 := 1#32
  let arg0 : BitVec 32 := BitVec.ofNat 32 (i 0).val
  let c2_i32 : BitVec 32 := 2#32
  let v0 : BitVec 32 := Scalar.remsi arg0 c2_i32
  let v85 : BitVec 32 := Scalar.subi c1_i32_45 v0
  let c1_i32_60 : BitVec 32 := 1#32
  ![v85.toNat, 1]
def k0_off29 (i : grid0.Coords) : Fin 4 → Nat :=
  let arg0 : BitVec 32 := BitVec.ofNat 32 (i 0).val
  let c1_i32_46 : BitVec 32 := 1#32
  let v86 : BitVec 32 := Scalar.subi arg0 c1_i32_46
  let c0_i32_61 : BitVec 32 := 0#32
  let c97_i32_62 : BitVec 32 := 97#32
  let c0_i32_63 : BitVec 32 := 0#32
  ![v86.toNat, 0, 97, 0]
def k0_off30 (i : grid0.Coords) : Fin 4 → Nat :=
  let c1_i32_45 : BitVec 32 := 1#32
  let arg0 : BitVec 32 := BitVec.ofNat 32 (i 0).val
  let c2_i32 : BitVec 32 := 2#32
  let v0 : BitVec 32 := Scalar.remsi arg0 c2_i32
  let v85 : BitVec 32 := Scalar.subi c1_i32_45 v0
  let c0_i32_64 : BitVec 32 := 0#32
  let c1_i32_65 : BitVec 32 := 1#32
  let c0_i32_66 : BitVec 32 := 0#32
  ![v85.toNat, 0, 1, 0]
def k0_off31 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off32 (i : grid0.Coords) : Fin 4 → Nat :=
  let arg0 : BitVec 32 := BitVec.ofNat 32 (i 0).val
  let c0_i32_67 : BitVec 32 := 0#32
  let c1_i32_68 : BitVec 32 := 1#32
  let c0_i32_69 : BitVec 32 := 0#32
  ![arg0.toNat, 0, 1, 0]
def k0_off33 (i : grid0.Coords) : Fin 4 → Nat :=
  let arg0 : BitVec 32 := BitVec.ofNat 32 (i 0).val
  let c2_i32 : BitVec 32 := 2#32
  let v0 : BitVec 32 := Scalar.remsi arg0 c2_i32
  let c0_i32_70 : BitVec 32 := 0#32
  let c0_i32_71 : BitVec 32 := 0#32
  let c0_i32_72 : BitVec 32 := 0#32
  ![v0.toNat, 0, 0, 0]
def k0_off34 (i : grid0.Coords) : Fin 2 → Nat :=
  let arg0 : BitVec 32 := BitVec.ofNat 32 (i 0).val
  let c2_i32 : BitVec 32 := 2#32
  let v0 : BitVec 32 := Scalar.remsi arg0 c2_i32
  let c0_i32_73 : BitVec 32 := 0#32
  ![v0.toNat, 0]
def k0_off35 (i : grid0.Coords) : Fin 4 → Nat :=
  let arg0 : BitVec 32 := BitVec.ofNat 32 (i 0).val
  let c0_i32_74 : BitVec 32 := 0#32
  let c0_i32_75 : BitVec 32 := 0#32
  let c0_i32_76 : BitVec 32 := 0#32
  ![arg0.toNat, 0, 0, 0]
def k0_off36 (i : grid0.Coords) : Fin 4 → Nat :=
  let arg0 : BitVec 32 := BitVec.ofNat 32 (i 0).val
  let c2_i32 : BitVec 32 := 2#32
  let v0 : BitVec 32 := Scalar.remsi arg0 c2_i32
  let c0_i32_77 : BitVec 32 := 0#32
  let c0_i32_78 : BitVec 32 := 0#32
  let c0_i32_79 : BitVec 32 := 0#32
  ![v0.toNat, 0, 0, 0]
def k0_off37 (i : grid0.Coords) : Fin 2 → Nat :=
  let arg0 : BitVec 32 := BitVec.ofNat 32 (i 0).val
  let c2_i32 : BitVec 32 := 2#32
  let v0 : BitVec 32 := Scalar.remsi arg0 c2_i32
  let c1_i32_80 : BitVec 32 := 1#32
  ![v0.toNat, 1]
def k0_off38 (i : grid0.Coords) : Fin 4 → Nat :=
  let arg0 : BitVec 32 := BitVec.ofNat 32 (i 0).val
  let c0_i32_81 : BitVec 32 := 0#32
  let c97_i32_82 : BitVec 32 := 97#32
  let c0_i32_83 : BitVec 32 := 0#32
  ![arg0.toNat, 0, 97, 0]
def k0_off39 (i : grid0.Coords) : Fin 4 → Nat :=
  let arg0 : BitVec 32 := BitVec.ofNat 32 (i 0).val
  let c2_i32 : BitVec 32 := 2#32
  let v0 : BitVec 32 := Scalar.remsi arg0 c2_i32
  let c0_i32_84 : BitVec 32 := 0#32
  let c1_i32_85 : BitVec 32 := 1#32
  let c0_i32_86 : BitVec 32 := 0#32
  ![v0.toNat, 0, 1, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c4_i32 : BitVec 32 := 4#32
  let v0 : BitVec 32 := Scalar.remsi arg0 c4_i32
  let c0_i32 : BitVec 32 := 0#32
  let v1 : BitVec 1 := Scalar.cmpi .eq v0 c0_i32
  let c3_i32 : BitVec 32 := 3#32
  let v2 : BitVec 1 := Scalar.cmpi .eq v0 c3_i32
  let c2_i32 : BitVec 32 := 2#32
  let c0_i32_0 : BitVec 32 := 0#32
  let v3 : BitVec 32 := Scalar.select v2 c2_i32 c0_i32_0
  let c1_i32 : BitVec 32 := 1#32
  let v4 : BitVec 32 := Scalar.select v1 c1_i32 v3
  let c0_i32_1 : BitVec 32 := 0#32
  let c0_i32_2 : BitVec 32 := 0#32
  let c0_i32_3 : BitVec 32 := 0#32
  ![v4.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x96x96x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x96x98 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x98 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S32x96x96x96 : Shape := ⟨4, ![32, 96, 96, 96]⟩
abbrev S4 : Shape := ⟨1, ![4]⟩
abbrev S1x4 : Shape := ⟨2, ![1, 4]⟩
abbrev S2x4 : Shape := ⟨2, ![2, 4]⟩
abbrev S8 : Shape := ⟨1, ![8]⟩
abbrev S2 : Shape := ⟨1, ![2]⟩
abbrev S_ : Shape := ⟨0, ![]⟩
abbrev S32x96x1x96 : Shape := ⟨4, ![32, 96, 1, 96]⟩
abbrev S32x96x1x98 : Shape := ⟨4, ![32, 96, 1, 98]⟩
abbrev S32x96x96x3 : Shape := ⟨4, ![32, 96, 96, 3]⟩
abbrev S32x96x96 : Shape := ⟨3, ![32, 96, 96]⟩
abbrev S32x96x96x1 : Shape := ⟨4, ![32, 96, 96, 1]⟩
abbrev S1x96x96x96 : Shape := ⟨4, ![1, 96, 96, 96]⟩
abbrev S1x0x96x96x96 : Shape := ⟨5, ![1, 0, 96, 96, 96]⟩
abbrev S0x96x96x96 : Shape := ⟨4, ![0, 96, 96, 96]⟩
abbrev S32x1x96x96 : Shape := ⟨4, ![32, 1, 96, 96]⟩
abbrev S32x1x0x96x96 : Shape := ⟨5, ![32, 1, 0, 96, 96]⟩
abbrev S32x0x96x96 : Shape := ⟨4, ![32, 0, 96, 96]⟩
abbrev S32x96x1x1x96 : Shape := ⟨5, ![32, 96, 1, 1, 96]⟩
abbrev S32x96x98x96 : Shape := ⟨4, ![32, 96, 98, 96]⟩
abbrev S32x96x98x1 : Shape := ⟨4, ![32, 96, 98, 1]⟩
abbrev S32x96x98x1x1 : Shape := ⟨5, ![32, 96, 98, 1, 1]⟩
abbrev S32x96x98x98 : Shape := ⟨4, ![32, 96, 98, 98]⟩
abbrev S1 : Shape := ⟨1, ![1]⟩
abbrev S8x1 : Shape := ⟨2, ![8, 1]⟩
abbrev S8x2 : Shape := ⟨2, ![8, 2]⟩
abbrev S8x96x1x98 : Shape := ⟨4, ![8, 96, 1, 98]⟩
abbrev S8x96x98 : Shape := ⟨3, ![8, 96, 98]⟩
abbrev S8x96x98x1 : Shape := ⟨4, ![8, 96, 98, 1]⟩

abbrev nBuf : Space → Nat
  | .hbm => 195
  | .vmem => 0
  | .smem => 0
  | _ => 0

abbrev hbmTy0_0 (i : Nat) : BufTy := match i % 128 with
  | 0 => ⟨S32x96x96x96, .f32⟩
  | 1 => ⟨S4, .i32⟩
  | 2 => ⟨S1x4, .i32⟩
  | 3 => ⟨S2x4, .i32⟩
  | 4 => ⟨S8, .i32⟩
  | 5 => ⟨S2, .i32⟩
  | 6 => ⟨S_, .i32⟩
  | 7 => ⟨S2, .i32⟩
  | 8 => ⟨S2, .i32⟩
  | 9 => ⟨S_, .i32⟩
  | 10 => ⟨S2, .i32⟩
  | 11 => ⟨S2, .i32⟩
  | 12 => ⟨S2x4, .i32⟩
  | 13 => ⟨S8, .i32⟩
  | 14 => ⟨S8, .i32⟩
  | 15 => ⟨S4, .i32⟩
  | 16 => ⟨S_, .i32⟩
  | 17 => ⟨S4, .i32⟩
  | 18 => ⟨S4, .i32⟩
  | 19 => ⟨S1x4, .i32⟩
  | 20 => ⟨S2x4, .i32⟩
  | 21 => ⟨S8, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2x4, .i32⟩
  | 30 => ⟨S8, .i32⟩
  | 31 => ⟨S8, .i32⟩
  | 32 => ⟨S8, .i32⟩
  | 33 => ⟨S_, .i32⟩
  | 34 => ⟨S8, .i32⟩
  | 35 => ⟨S8, .i32⟩
  | 36 => ⟨S_, .i32⟩
  | 37 => ⟨S8, .i32⟩
  | 38 => ⟨S8, .i32⟩
  | 39 => ⟨S8, .i32⟩
  | 40 => ⟨S_, .i32⟩
  | 41 => ⟨S8, .i32⟩
  | 42 => ⟨S8, .i32⟩
  | 43 => ⟨S_, .i32⟩
  | 44 => ⟨S8, .i32⟩
  | 45 => ⟨S8, .i32⟩
  | 46 => ⟨S32x96x1x96, .f32⟩
  | 47 => ⟨S_, .f32⟩
  | 48 => ⟨S_, .f32⟩
  | 49 => ⟨S32x96x1x98, .f32⟩
  | 50 => ⟨S32x96x1x96, .f32⟩
  | 51 => ⟨S32x96x1x96, .f32⟩
  | 52 => ⟨S32x96x1x96, .f32⟩
  | 53 => ⟨S32x96x1x96, .f32⟩
  | 54 => ⟨S32x96x1x96, .f32⟩
  | 55 => ⟨S_, .f32⟩
  | 56 => ⟨S32x96x1x96, .f32⟩
  | 57 => ⟨S32x96x1x96, .f32⟩
  | 58 => ⟨S32x96x1x96, .f32⟩
  | 59 => ⟨S_, .f32⟩
  | 60 => ⟨S_, .f32⟩
  | 61 => ⟨S32x96x1x98, .f32⟩
  | 62 => ⟨S32x96x1x96, .f32⟩
  | 63 => ⟨S32x96x1x96, .f32⟩
  | 64 => ⟨S32x96x1x96, .f32⟩
  | 65 => ⟨S32x96x1x96, .f32⟩
  | 66 => ⟨S32x96x1x96, .f32⟩
  | 67 => ⟨S_, .f32⟩
  | 68 => ⟨S32x96x1x96, .f32⟩
  | 69 => ⟨S32x96x1x96, .f32⟩
  | 70 => ⟨S32x96x96x3, .f32⟩
  | 71 => ⟨S_, .f32⟩
  | 72 => ⟨S32x96x96, .f32⟩
  | 73 => ⟨S32x96x96x1, .f32⟩
  | 74 => ⟨S_, .f32⟩
  | 75 => ⟨S32x96x96x1, .f32⟩
  | 76 => ⟨S32x96x96x1, .f32⟩
  | 77 => ⟨S32x96x96x3, .f32⟩
  | 78 => ⟨S_, .f32⟩
  | 79 => ⟨S32x96x96, .f32⟩
  | 80 => ⟨S32x96x96x1, .f32⟩
  | 81 => ⟨S_, .f32⟩
  | 82 => ⟨S32x96x96x1, .f32⟩
  | 83 => ⟨S32x96x96x1, .f32⟩
  | 84 => ⟨S_, .i32⟩
  | 85 => ⟨S1x96x96x96, .f32⟩
  | 86 => ⟨S1x0x96x96x96, .f32⟩
  | 87 => ⟨S0x96x96x96, .f32⟩
  | 88 => ⟨S1x96x96x96, .f32⟩
  | 89 => ⟨S1x0x96x96x96, .f32⟩
  | 90 => ⟨S0x96x96x96, .f32⟩
  | 91 => ⟨S32x96x96x96, .f32⟩
  | 92 => ⟨S32x1x96x96, .f32⟩
  | 93 => ⟨S32x1x0x96x96, .f32⟩
  | 94 => ⟨S32x0x96x96, .f32⟩
  | 95 => ⟨S32x1x96x96, .f32⟩
  | 96 => ⟨S32x1x0x96x96, .f32⟩
  | 97 => ⟨S32x0x96x96, .f32⟩
  | 98 => ⟨S32x96x96x96, .f32⟩
  | 99 => ⟨S32x96x1x96, .f32⟩
  | 100 => ⟨S32x96x1x1x96, .f32⟩
  | 101 => ⟨S32x96x1x96, .f32⟩
  | 102 => ⟨S32x96x1x96, .f32⟩
  | 103 => ⟨S32x96x1x1x96, .f32⟩
  | 104 => ⟨S32x96x1x96, .f32⟩
  | 105 => ⟨S32x96x98x96, .f32⟩
  | 106 => ⟨S32x96x98x1, .f32⟩
  | 107 => ⟨S32x96x98x1x1, .f32⟩
  | 108 => ⟨S32x96x98x1, .f32⟩
  | 109 => ⟨S32x96x98x1, .f32⟩
  | 110 => ⟨S32x96x98x1x1, .f32⟩
  | 111 => ⟨S32x96x98x1, .f32⟩
  | 112 => ⟨S32x96x98x98, .f32⟩
  | 113 => ⟨S_, .i32⟩
  | 114 => ⟨S1, .i32⟩
  | 115 => ⟨S_, .i32⟩
  | 116 => ⟨S1, .i32⟩
  | 117 => ⟨S2, .i32⟩
  | 118 => ⟨S32x96x98x98, .f32⟩
  | 119 => ⟨S_, .i32⟩
  | 120 => ⟨S1, .i32⟩
  | 121 => ⟨S_, .i32⟩
  | 122 => ⟨S1, .i32⟩
  | 123 => ⟨S2, .i32⟩
  | 124 => ⟨S32x96x98x98, .f32⟩
  | 125 => ⟨S_, .i32⟩
  | 126 => ⟨S1, .i32⟩
  | 127 => ⟨S_, .i32⟩
  | _ => ⟨S32x96x96x96, .f32⟩

abbrev hbmTy0_1 (i : Nat) : BufTy := match i % 128 with
  | 0 => ⟨S1, .i32⟩
  | 1 => ⟨S2, .i32⟩
  | 2 => ⟨S32x96x98x98, .f32⟩
  | 3 => ⟨S_, .i32⟩
  | 4 => ⟨S1, .i32⟩
  | 5 => ⟨S_, .i32⟩
  | 6 => ⟨S1, .i32⟩
  | 7 => ⟨S2, .i32⟩
  | 8 => ⟨S32x96x98x98, .f32⟩
  | 9 => ⟨S_, .i32⟩
  | 10 => ⟨S8, .i32⟩
  | 11 => ⟨S8, .i1⟩
  | 12 => ⟨S_, .i32⟩
  | 13 => ⟨S8, .i32⟩
  | 14 => ⟨S8, .i32⟩
  | 15 => ⟨S8, .i32⟩
  | 16 => ⟨S8x1, .i32⟩
  | 17 => ⟨S_, .i32⟩
  | 18 => ⟨S8x1, .i32⟩
  | 19 => ⟨S8x2, .i32⟩
  | 20 => ⟨S_, .f32⟩
  | 21 => ⟨S8x96x1x98, .f32⟩
  | 22 => ⟨S32x96x98x98, .f32⟩
  | 23 => ⟨S_, .i32⟩
  | 24 => ⟨S8, .i32⟩
  | 25 => ⟨S8, .i1⟩
  | 26 => ⟨S_, .i32⟩
  | 27 => ⟨S8, .i32⟩
  | 28 => ⟨S8, .i32⟩
  | 29 => ⟨S8, .i32⟩
  | 30 => ⟨S_, .i32⟩
  | 31 => ⟨S8, .i32⟩
  | 32 => ⟨S8, .i32⟩
  | 33 => ⟨S8x1, .i32⟩
  | 34 => ⟨S8x1, .i32⟩
  | 35 => ⟨S8x2, .i32⟩
  | 36 => ⟨S_, .f32⟩
  | 37 => ⟨S8x96x98, .f32⟩
  | 38 => ⟨S32x96x98x98, .f32⟩
  | 39 => ⟨S_, .i32⟩
  | 40 => ⟨S8, .i32⟩
  | 41 => ⟨S8, .i1⟩
  | 42 => ⟨S_, .i32⟩
  | 43 => ⟨S8, .i32⟩
  | 44 => ⟨S8, .i32⟩
  | 45 => ⟨S8, .i32⟩
  | 46 => ⟨S8x1, .i32⟩
  | 47 => ⟨S_, .i32⟩
  | 48 => ⟨S8x1, .i32⟩
  | 49 => ⟨S8x2, .i32⟩
  | 50 => ⟨S_, .f32⟩
  | 51 => ⟨S8x96x98x1, .f32⟩
  | 52 => ⟨S32x96x98x98, .f32⟩
  | 53 => ⟨S_, .i32⟩
  | 54 => ⟨S8, .i32⟩
  | 55 => ⟨S8, .i1⟩
  | 56 => ⟨S_, .i32⟩
  | 57 => ⟨S8, .i32⟩
  | 58 => ⟨S8, .i32⟩
  | 59 => ⟨S8, .i32⟩
  | 60 => ⟨S8x1, .i32⟩
  | 61 => ⟨S_, .i32⟩
  | 62 => ⟨S8x1, .i32⟩
  | 63 => ⟨S8x2, .i32⟩
  | 64 => ⟨S_, .f32⟩
  | 65 => ⟨S8x96x98x1, .f32⟩
  | 66 => ⟨S32x96x98x98, .f32⟩
  | _ => ⟨S32x96x96x96, .f32⟩

abbrev hbmTy (i : Nat) : BufTy := match i / 128 with
  | 0 => hbmTy0_0 i
  | 1 => hbmTy0_1 i
  | _ => ⟨S32x96x96x96, .f32⟩

abbrev bufTy : (tb : Table) → Fin (tcTables nBuf tb) → BufTy
  | .hbm, ⟨i, _⟩ => hbmTy i
  | _, _ => ⟨S32x96x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩
abbrev main_c_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_2 : Ref sig .tc := ⟨.hbm, 23, rfl⟩
abbrev main_v19 : Ref sig .tc := ⟨.hbm, 24, rfl⟩
abbrev main_v20 : Ref sig .tc := ⟨.hbm, 25, rfl⟩
abbrev main_c_3 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_4 : Ref sig .tc := ⟨.hbm, 33, rfl⟩
abbrev main_v27 : Ref sig .tc := ⟨.hbm, 34, rfl⟩
abbrev main_v28 : Ref sig .tc := ⟨.hbm, 35, rfl⟩
abbrev main_c_5 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_6 : Ref sig .tc := ⟨.hbm, 40, rfl⟩
abbrev main_v32 : Ref sig .tc := ⟨.hbm, 41, rfl⟩
abbrev main_v33 : Ref sig .tc := ⟨.hbm, 42, rfl⟩
abbrev main_c_7 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst : Ref sig .tc := ⟨.hbm, 47, rfl⟩
abbrev main_call0_v0 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_8 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_9 : Ref sig .tc := ⟨.hbm, 59, rfl⟩
abbrev main_call1_v0 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_13 : Ref sig .tc := ⟨.hbm, 78, rfl⟩
abbrev main_v60 : Ref sig .tc := ⟨.hbm, 79, rfl⟩
abbrev main_v61 : Ref sig .tc := ⟨.hbm, 80, rfl⟩
abbrev main_cst_14 : Ref sig .tc := ⟨.hbm, 81, rfl⟩
abbrev main_v62 : Ref sig .tc := ⟨.hbm, 82, rfl⟩
abbrev main_v63 : Ref sig .tc := ⟨.hbm, 83, rfl⟩
abbrev main_c_15 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_v15 : Ref sig .tc := ⟨.hbm, 100, rfl⟩
abbrev main_call2_v16 : Ref sig .tc := ⟨.hbm, 101, rfl⟩
abbrev main_call2_v17 : Ref sig .tc := ⟨.hbm, 102, rfl⟩
abbrev main_call2_v18 : Ref sig .tc := ⟨.hbm, 103, rfl⟩
abbrev main_call2_v19 : Ref sig .tc := ⟨.hbm, 104, rfl⟩
abbrev main_call2_v20 : Ref sig .tc := ⟨.hbm, 105, rfl⟩
abbrev main_call2_v21 : Ref sig .tc := ⟨.hbm, 106, rfl⟩
abbrev main_call2_v22 : Ref sig .tc := ⟨.hbm, 107, rfl⟩
abbrev main_call2_v23 : Ref sig .tc := ⟨.hbm, 108, rfl⟩
abbrev main_call2_v24 : Ref sig .tc := ⟨.hbm, 109, rfl⟩
abbrev main_call2_v25 : Ref sig .tc := ⟨.hbm, 110, rfl⟩
abbrev main_call2_v26 : Ref sig .tc := ⟨.hbm, 111, rfl⟩
abbrev main_v64 : Ref sig .tc := ⟨.hbm, 112, rfl⟩
abbrev main_c_16 : Ref sig .tc := ⟨.hbm, 113, rfl⟩
abbrev main_v65 : Ref sig .tc := ⟨.hbm, 114, rfl⟩
abbrev main_c_17 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_c_18 : Ref sig .tc := ⟨.hbm, 119, rfl⟩
abbrev main_v69 : Ref sig .tc := ⟨.hbm, 120, rfl⟩
abbrev main_c_19 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_c_20 : Ref sig .tc := ⟨.hbm, 125, rfl⟩
abbrev main_v73 : Ref sig .tc := ⟨.hbm, 126, rfl⟩
abbrev main_c_21 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_c_22 : Ref sig .tc := ⟨.hbm, 131, rfl⟩
abbrev main_v77 : Ref sig .tc := ⟨.hbm, 132, rfl⟩
abbrev main_c_23 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_c_24 : Ref sig .tc := ⟨.hbm, 137, rfl⟩
abbrev main_v81 : Ref sig .tc := ⟨.hbm, 138, rfl⟩
abbrev main_v82 : Ref sig .tc := ⟨.hbm, 139, rfl⟩
abbrev main_c_25 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_c_26 : Ref sig .tc := ⟨.hbm, 145, rfl⟩
abbrev main_v87 : Ref sig .tc := ⟨.hbm, 146, rfl⟩
abbrev main_v88 : Ref sig .tc := ⟨.hbm, 147, rfl⟩
abbrev main_cst_27 : Ref sig .tc := ⟨.hbm, 148, rfl⟩
abbrev main_v89 : Ref sig .tc := ⟨.hbm, 149, rfl⟩
abbrev main_v90 : Ref sig .tc := ⟨.hbm, 150, rfl⟩
abbrev main_c_28 : Ref sig .tc := ⟨.hbm, 151, rfl⟩
abbrev main_v91 : Ref sig .tc := ⟨.hbm, 152, rfl⟩
abbrev main_v92 : Ref sig .tc := ⟨.hbm, 153, rfl⟩
abbrev main_c_29 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_c_30 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_cst_31 : Ref sig .tc := ⟨.hbm, 164, rfl⟩
abbrev main_v101 : Ref sig .tc := ⟨.hbm, 165, rfl⟩
abbrev main_v102 : Ref sig .tc := ⟨.hbm, 166, rfl⟩
abbrev main_c_32 : Ref sig .tc := ⟨.hbm, 167, rfl⟩
abbrev main_v103 : Ref sig .tc := ⟨.hbm, 168, rfl⟩
abbrev main_v104 : Ref sig .tc := ⟨.hbm, 169, rfl⟩
abbrev main_c_33 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_c_34 : Ref sig .tc := ⟨.hbm, 175, rfl⟩
abbrev main_v109 : Ref sig .tc := ⟨.hbm, 176, rfl⟩
abbrev main_v110 : Ref sig .tc := ⟨.hbm, 177, rfl⟩
abbrev main_cst_35 : Ref sig .tc := ⟨.hbm, 178, rfl⟩
abbrev main_v111 : Ref sig .tc := ⟨.hbm, 179, rfl⟩
abbrev main_v112 : Ref sig .tc := ⟨.hbm, 180, rfl⟩
abbrev main_c_36 : Ref sig .tc := ⟨.hbm, 181, rfl⟩
abbrev main_v113 : Ref sig .tc := ⟨.hbm, 182, rfl⟩
abbrev main_v114 : Ref sig .tc := ⟨.hbm, 183, rfl⟩
abbrev main_c_37 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_c_38 : Ref sig .tc := ⟨.hbm, 189, rfl⟩
abbrev main_v119 : Ref sig .tc := ⟨.hbm, 190, rfl⟩
abbrev main_v120 : Ref sig .tc := ⟨.hbm, 191, rfl⟩
abbrev main_cst_39 : Ref sig .tc := ⟨.hbm, 192, rfl⟩
abbrev main_v121 : Ref sig .tc := ⟨.hbm, 193, rfl⟩
abbrev main_v122 : Ref sig .tc := ⟨.hbm, 194, rfl⟩

abbrev nD : Nat := 1
abbrev τ : Topo := Topo.v7x

variable {F : FTy → Type} [FloatOps F]
-- ==== Proof.NamesIdeal.lean ====
/-
  The names the ring of copies is stated over: the piece of the result that one copy of one grid point writes, the tile
  of the scratch buffer it is copied out of and the semaphore cell that counts it, each as the body slices it; and, for
  every offset the body computes, its closed form at a grid point, so that the slices of the body are those names.
-/
module

public import proofs.«01_k».proof.Proof.Gen.KernelIdeal.Frame
public import proofs.«01_k».proof.Proof.Gen.KernelIdeal.Skeleton
public import Idealize.ShloMosaic.Lib.Pipeline.KitQuiescent
public import Idealize.ShloMosaic.Lib.Ring.WriteBehind
public import Idealize.ShloMosaic.Lib.Ring
public import Idealize.ShloMosaic.Lib.Affine
public import Idealize.ShloMosaic.Lib.Tactic

@[expose] public section

set_option maxRecDepth 16384

noncomputable section

namespace Cert.KernelIdeal.Pad

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)

/-! ## The buffers -/

/-- The result, left in HBM. -/
abbrev oM : Memref sig .tc .hbm S32x96x98x98 .f32 := Memref.whole main_v61
/-- The scratch of the rows in the middle, two slots. -/
abbrev midM : Memref sig .tc .vmem S2x96x96x98 .f32 := Memref.whole cc0_scratch0
/-- The scratch of the first and the last row, two slots. -/
abbrev rowM : Memref sig .tc .vmem S2x96x2x98 .f32 := Memref.whole cc0_scratch1

/-! ## Offsets -/

abbrev midOff (n : Fin 32) : Fin 4 → Nat := ![n.val, 0, 1, 0]
abbrev topOff (n : Fin 32) : Fin 4 → Nat := ![n.val, 0, 0, 0]
abbrev botOff (n : Fin 32) : Fin 4 → Nat := ![n.val, 0, 97, 0]
abbrev tileOff (s : Fin 2) : Fin 4 → Nat := ![s.val, 0, 0, 0]
abbrev tileOff1 (s : Fin 2) : Fin 4 → Nat := ![s.val, 0, 1, 0]
abbrev semOff (s : Fin 2) : Fin 1 → Nat := ![s.val]
abbrev semOff0 (s : Fin 2) : Fin 2 → Nat := ![s.val, 0]
abbrev semOff1 (s : Fin 2) : Fin 2 → Nat := ![s.val, 1]

theorem midOff_inb : ∀ n : Fin 32, ∀ a, midOff n a + S1x96x96x98.size a ≤ S32x96x98x98.size a := by decide +kernel
theorem topOff_inb : ∀ n : Fin 32, ∀ a, topOff n a + S1x96x1x98.size a ≤ S32x96x98x98.size a := by decide +kernel
theorem botOff_inb : ∀ n : Fin 32, ∀ a, botOff n a + S1x96x1x98.size a ≤ S32x96x98x98.size a := by decide +kernel
theorem tileOff_inb : ∀ s : Fin 2, ∀ a, tileOff s a + S1x96x96x98.size a ≤ S2x96x96x98.size a := by decide +kernel
theorem tileOffT_inb : ∀ s : Fin 2, ∀ a, tileOff s a + S1x96x1x98.size a ≤ S2x96x2x98.size a := by decide +kernel
theorem tileOffB_inb : ∀ s : Fin 2, ∀ a, tileOff1 s a + S1x96x1x98.size a ≤ S2x96x2x98.size a := by decide +kernel
theorem semOff_inb : ∀ s : Fin 2, ∀ a, semOff s a + S1.size a ≤ S2.size a := by decide +kernel
theorem semOff0_inb : ∀ s : Fin 2, ∀ a, semOff0 s a + S1x1.size a ≤ S2x2.size a := by decide +kernel
theorem semOff1_inb : ∀ s : Fin 2, ∀ a, semOff1 s a + S1x1.size a ≤ S2x2.size a := by decide +kernel

instance (n : Fin 32) : ClosedOff (midOff n) := ⟨midOff n, rfl⟩
instance (n : Fin 32) : ClosedOff (topOff n) := ⟨topOff n, rfl⟩
instance (n : Fin 32) : ClosedOff (botOff n) := ⟨botOff n, rfl⟩
instance (s : Fin 2) : ClosedOff (tileOff s) := ⟨tileOff s, rfl⟩
instance (s : Fin 2) : ClosedOff (tileOff1 s) := ⟨tileOff1 s, rfl⟩

/-! ## Pieces, tiles, cells -/

/-- Grid point `n`'s rows in the middle of the result. -/
def oMid (n : Fin 32) : Memref sig .tc .hbm S96x96x98 .f32 :=
  (oM.slice (Rect.unit (s := S32x96x98x98) (midOff n) S1x96x96x98.size (midOff_inb n)) (fun _ => rfl)).squeeze S96x96x98 squeezes_S1x96x96x98_S96x96x98
/-- its first row; -/
def oTop (n : Fin 32) : Memref sig .tc .hbm S96x1x98 .f32 :=
  (oM.slice (Rect.unit (s := S32x96x98x98) (topOff n) S1x96x1x98.size (topOff_inb n)) (fun _ => rfl)).squeeze S96x1x98 squeezes_S1x96x1x98_S96x1x98
/-- its last. -/
def oBot (n : Fin 32) : Memref sig .tc .hbm S96x1x98 .f32 :=
  (oM.slice (Rect.unit (s := S32x96x98x98) (botOff n) S1x96x1x98.size (botOff_inb n)) (fun _ => rfl)).squeeze S96x1x98 squeezes_S1x96x1x98_S96x1x98
/-- Slot `s` of the scratch of the rows in the middle; -/
def tMid (s : Fin 2) : Memref sig .tc .vmem S96x96x98 .f32 :=
  (midM.slice (Rect.unit (s := S2x96x96x98) (tileOff s) S1x96x96x98.size (tileOff_inb s)) (fun _ => rfl)).squeeze S96x96x98 squeezes_S1x96x96x98_S96x96x98
/-- of the first row's; -/
def tTop (s : Fin 2) : Memref sig .tc .vmem S96x1x98 .f32 :=
  (rowM.slice (Rect.unit (s := S2x96x2x98) (tileOff s) S1x96x1x98.size (tileOffT_inb s)) (fun _ => rfl)).squeeze S96x1x98 squeezes_S1x96x1x98_S96x1x98
/-- of the last row's. -/
def tBot (s : Fin 2) : Memref sig .tc .vmem S96x1x98 .f32 :=
  (rowM.slice (Rect.unit (s := S2x96x2x98) (tileOff1 s) S1x96x1x98.size (tileOffB_inb s)) (fun _ => rfl)).squeeze S96x1x98 squeezes_S1x96x1x98_S96x1x98
/-- The cells that count the three copies of slot `s`. -/
def cMid (s : Fin 2) : DmaSems sig S_ := (cc0_scratch2.slice (Rect.unit (s := S2) (semOff s) S1.size (semOff_inb s))).squeeze S_ squeezes_S1_S_
def cTop (s : Fin 2) : DmaSems sig S_ := (cc0_scratch3.slice (Rect.unit (s := S2x2) (semOff0 s) S1x1.size (semOff0_inb s))).squeeze S_ squeezes_S1x1_S_
def cBot (s : Fin 2) : DmaSems sig S_ := (cc0_scratch3.slice (Rect.unit (s := S2x2) (semOff1 s) S1x1.size (semOff1_inb s))).squeeze S_ squeezes_S1x1_S_

/-! ## The two conditions -/

theorem cond1_iff : ∀ t : Fin grid0.N, (k0_cond1 (grid0.coords t) = 1#1) ↔ 2 ≤ t.val := by decide +kernel
theorem cond2_iff : ∀ t : Fin grid0.N, (k0_cond2 (grid0.coords t) = 1#1) ↔ t.val + 1 = 32 := by decide +kernel

/-! ## The offsets in closed form -/

theorem off1_eq : ∀ t : Fin grid0.N, k0_off1 (grid0.coords t) = semOff (sl 2 t.val) := by decide +kernel
theorem off2_eq : ∀ t : Fin grid0.N, 2 ≤ t.val → k0_off2 (grid0.coords t) = midOff (bk 32 (t.val - 2)) := by decide +kernel
theorem off3_eq : ∀ t : Fin grid0.N, k0_off3 (grid0.coords t) = tileOff (sl 2 t.val) := by decide +kernel
theorem off4_eq : ∀ t : Fin grid0.N, k0_off4 (grid0.coords t) = semOff0 (sl 2 t.val) := by decide +kernel
theorem off5_eq : ∀ t : Fin grid0.N, 2 ≤ t.val → k0_off5 (grid0.coords t) = topOff (bk 32 (t.val - 2)) := by decide +kernel
theorem off6_eq : ∀ t : Fin grid0.N, k0_off6 (grid0.coords t) = tileOff (sl 2 t.val) := by decide +kernel
theorem off7_eq : ∀ t : Fin grid0.N, k0_off7 (grid0.coords t) = semOff1 (sl 2 t.val) := by decide +kernel
theorem off8_eq : ∀ t : Fin grid0.N, 2 ≤ t.val → k0_off8 (grid0.coords t) = botOff (bk 32 (t.val - 2)) := by decide +kernel
theorem off9_eq : ∀ t : Fin grid0.N, k0_off9 (grid0.coords t) = tileOff1 (sl 2 t.val) := by decide +kernel
theorem off10_eq : ∀ t : Fin grid0.N, k0_off10 (grid0.coords t) = tileOff (sl 2 t.val) := by decide +kernel
theorem off11_eq : ∀ t : Fin grid0.N, k0_off11 (grid0.coords t) = tileOff (sl 2 t.val) := by decide +kernel
theorem off12_eq : ∀ t : Fin grid0.N, k0_off12 (grid0.coords t) = tileOff1 (sl 2 t.val) := by decide +kernel
theorem off13_eq : ∀ t : Fin grid0.N, k0_off13 (grid0.coords t) = semOff (sl 2 t.val) := by decide +kernel
theorem off14_eq : ∀ t : Fin grid0.N, k0_off14 (grid0.coords t) = midOff (bk 32 t.val) := by decide +kernel
theorem off15_eq : ∀ t : Fin grid0.N, k0_off15 (grid0.coords t) = tileOff (sl 2 t.val) := by decide +kernel
theorem off16_eq : ∀ t : Fin grid0.N, k0_off16 (grid0.coords t) = semOff0 (sl 2 t.val) := by decide +kernel
theorem off17_eq : ∀ t : Fin grid0.N, k0_off17 (grid0.coords t) = topOff (bk 32 t.val) := by decide +kernel
theorem off18_eq : ∀ t : Fin grid0.N, k0_off18 (grid0.coords t) = tileOff (sl 2 t.val) := by decide +kernel
theorem off19_eq : ∀ t : Fin grid0.N, k0_off19 (grid0.coords t) = semOff1 (sl 2 t.val) := by decide +kernel
theorem off20_eq : ∀ t : Fin grid0.N, k0_off20 (grid0.coords t) = botOff (bk 32 t.val) := by decide +kernel
theorem off21_eq : ∀ t : Fin grid0.N, k0_off21 (grid0.coords t) = tileOff1 (sl 2 t.val) := by decide +kernel
theorem off22_eq : ∀ t : Fin grid0.N, t.val + 1 = 32 → k0_off22 (grid0.coords t) = semOff (sl 2 (t.val + 1)) := by decide +kernel
theorem off23_eq : ∀ t : Fin grid0.N, t.val + 1 = 32 → k0_off23 (grid0.coords t) = midOff (bk 32 (t.val - 1)) := by decide +kernel
theorem off24_eq : ∀ t : Fin grid0.N, t.val + 1 = 32 → k0_off24 (grid0.coords t) = tileOff (sl 2 (t.val + 1)) := by decide +kernel
theorem off25_eq : ∀ t : Fin grid0.N, t.val + 1 = 32 → k0_off25 (grid0.coords t) = semOff0 (sl 2 (t.val + 1)) := by decide +kernel
theorem off26_eq : ∀ t : Fin grid0.N, t.val + 1 = 32 → k0_off26 (grid0.coords t) = topOff (bk 32 (t.val - 1)) := by decide +kernel
theorem off27_eq : ∀ t : Fin grid0.N, t.val + 1 = 32 → k0_off27 (grid0.coords t) = tileOff (sl 2 (t.val + 1)) := by decide +kernel
theorem off28_eq : ∀ t : Fin grid0.N, t.val + 1 = 32 → k0_off28 (grid0.coords t) = semOff1 (sl 2 (t.val + 1)) := by decide +kernel
theorem off29_eq : ∀ t : Fin grid0.N, t.val + 1 = 32 → k0_off29 (grid0.coords t) = botOff (bk 32 (t.val - 1)) := by decide +kernel
theorem off30_eq : ∀ t : Fin grid0.N, t.val + 1 = 32 → k0_off30 (grid0.coords t) = tileOff1 (sl 2 (t.val + 1)) := by decide +kernel
theorem off31_eq : ∀ t : Fin grid0.N, k0_off31 (grid0.coords t) = semOff (sl 2 t.val) := by decide +kernel
theorem off32_eq : ∀ t : Fin grid0.N, k0_off32 (grid0.coords t) = midOff (bk 32 t.val) := by decide +kernel
theorem off33_eq : ∀ t : Fin grid0.N, k0_off33 (grid0.coords t) = tileOff (sl 2 t.val) := by decide +kernel
theorem off34_eq : ∀ t : Fin grid0.N, k0_off34 (grid0.coords t) = semOff0 (sl 2 t.val) := by decide +kernel
theorem off35_eq : ∀ t : Fin grid0.N, k0_off35 (grid0.coords t) = topOff (bk 32 t.val) := by decide +kernel
theorem off36_eq : ∀ t : Fin grid0.N, k0_off36 (grid0.coords t) = tileOff (sl 2 t.val) := by decide +kernel
theorem off37_eq : ∀ t : Fin grid0.N, k0_off37 (grid0.coords t) = semOff1 (sl 2 t.val) := by decide +kernel
theorem off38_eq : ∀ t : Fin grid0.N, k0_off38 (grid0.coords t) = botOff (bk 32 t.val) := by decide +kernel
theorem off39_eq : ∀ t : Fin grid0.N, k0_off39 (grid0.coords t) = tileOff1 (sl 2 t.val) := by decide +kernel

instance (t : Fin grid0.N) : ClosedOff (k0_off10 (grid0.coords t)) := ⟨tileOff (sl 2 t.val), off10_eq t⟩
instance (t : Fin grid0.N) : ClosedOff (k0_off11 (grid0.coords t)) := ⟨tileOff (sl 2 t.val), off11_eq t⟩
instance (t : Fin grid0.N) : ClosedOff (k0_off12 (grid0.coords t)) := ⟨tileOff1 (sl 2 t.val), off12_eq t⟩

/-! ## The body's slices are the names -/

section Canon

theorem cMid_congr {off : Fin 1 → Nat} {s : Fin 2} (e : off = semOff s) (hh) :
    (cc0_scratch2.slice (Rect.unit (s := S2) off S1.size hh)).squeeze S_ squeezes_S1_S_ = cMid s :=
  congrArg (fun A : DmaSems sig S1 => A.squeeze S_ squeezes_S1_S_) (SemArray.slice_unit_congr _ e _ _)
theorem cTop_congr {off : Fin 2 → Nat} {s : Fin 2} (e : off = semOff0 s) (hh) :
    (cc0_scratch3.slice (Rect.unit (s := S2x2) off S1x1.size hh)).squeeze S_ squeezes_S1x1_S_ = cTop s :=
  congrArg (fun A : DmaSems sig S1x1 => A.squeeze S_ squeezes_S1x1_S_) (SemArray.slice_unit_congr _ e _ _)
theorem cBot_congr {off : Fin 2 → Nat} {s : Fin 2} (e : off = semOff1 s) (hh) :
    (cc0_scratch3.slice (Rect.unit (s := S2x2) off S1x1.size hh)).squeeze S_ squeezes_S1x1_S_ = cBot s :=
  congrArg (fun A : DmaSems sig S1x1 => A.squeeze S_ squeezes_S1x1_S_) (SemArray.slice_unit_congr _ e _ _)
theorem tMid_congr {off : Fin 4 → Nat} {s : Fin 2} (e : off = tileOff s) (hh hs) :
    (midM.slice (Rect.unit (s := S2x96x96x98) off S1x96x96x98.size hh) hs).squeeze S96x96x98 squeezes_S1x96x96x98_S96x96x98 = tMid s :=
  congrArg (fun M : Memref sig .tc .vmem S1x96x96x98 .f32 => M.squeeze S96x96x98 squeezes_S1x96x96x98_S96x96x98) (Memref.slice_unit_congr _ e _ _ _ _)
theorem tTop_congr {off : Fin 4 → Nat} {s : Fin 2} (e : off = tileOff s) (hh hs) :
    (rowM.slice (Rect.unit (s := S2x96x2x98) off S1x96x1x98.size hh) hs).squeeze S96x1x98 squeezes_S1x96x1x98_S96x1x98 = tTop s :=
  congrArg (fun M : Memref sig .tc .vmem S1x96x1x98 .f32 => M.squeeze S96x1x98 squeezes_S1x96x1x98_S96x1x98) (Memref.slice_unit_congr _ e _ _ _ _)
theorem tBot_congr {off : Fin 4 → Nat} {s : Fin 2} (e : off = tileOff1 s) (hh hs) :
    (rowM.slice (Rect.unit (s := S2x96x2x98) off S1x96x1x98.size hh) hs).squeeze S96x1x98 squeezes_S1x96x1x98_S96x1x98 = tBot s :=
  congrArg (fun M : Memref sig .tc .vmem S1x96x1x98 .f32 => M.squeeze S96x1x98 squeezes_S1x96x1x98_S96x1x98) (Memref.slice_unit_congr _ e _ _ _ _)
theorem oMid_congr {off : Fin 4 → Nat} {n : Fin 32} (e : off = midOff n) (hh hs) :
    (oM.slice (Rect.unit (s := S32x96x98x98) off S1x96x96x98.size hh) hs).squeeze S96x96x98 squeezes_S1x96x96x98_S96x96x98 = oMid n :=
  congrArg (fun M : Memref sig .tc .hbm S1x96x96x98 .f32 => M.squeeze S96x96x98 squeezes_S1x96x96x98_S96x96x98) (Memref.slice_unit_congr _ e _ _ _ _)
theorem oTop_congr {off : Fin 4 → Nat} {n : Fin 32} (e : off = topOff n) (hh hs) :
    (oM.slice (Rect.unit (s := S32x96x98x98) off S1x96x1x98.size hh) hs).squeeze S96x1x98 squeezes_S1x96x1x98_S96x1x98 = oTop n :=
  congrArg (fun M : Memref sig .tc .hbm S1x96x1x98 .f32 => M.squeeze S96x1x98 squeezes_S1x96x1x98_S96x1x98) (Memref.slice_unit_congr _ e _ _ _ _)
theorem oBot_congr {off : Fin 4 → Nat} {n : Fin 32} (e : off = botOff n) (hh hs) :
    (oM.slice (Rect.unit (s := S32x96x98x98) off S1x96x1x98.size hh) hs).squeeze S96x1x98 squeezes_S1x96x1x98_S96x1x98 = oBot n :=
  congrArg (fun M : Memref sig .tc .hbm S1x96x1x98 .f32 => M.squeeze S96x1x98 squeezes_S1x96x1x98_S96x1x98) (Memref.slice_unit_congr _ e _ _ _ _)

variable (t : Fin grid0.N)

@[sl_canon] theorem name1 (hh) : (cc0_scratch2.slice (Rect.unit (s := S2) (k0_off1 (grid0.coords t)) S1.size hh)).squeeze S_ squeezes_S1_S_ = cMid (sl 2 t.val) :=
  cMid_congr (off1_eq t) _
@[sl_canon] theorem name2 (h2 : 2 ≤ t.val) (hh hs) : (oM.slice (Rect.unit (s := S32x96x98x98) (k0_off2 (grid0.coords t)) S1x96x96x98.size hh) hs).squeeze S96x96x98 squeezes_S1x96x96x98_S96x96x98 = oMid (bk 32 (t.val - 2)) :=
  oMid_congr (off2_eq t h2) _ _
@[sl_canon] theorem name3 (hh hs) : (midM.slice (Rect.unit (s := S2x96x96x98) (k0_off3 (grid0.coords t)) S1x96x96x98.size hh) hs).squeeze S96x96x98 squeezes_S1x96x96x98_S96x96x98 = tMid (sl 2 t.val) :=
  tMid_congr (off3_eq t) _ _
@[sl_canon] theorem name4 (hh) : (cc0_scratch3.slice (Rect.unit (s := S2x2) (k0_off4 (grid0.coords t)) S1x1.size hh)).squeeze S_ squeezes_S1x1_S_ = cTop (sl 2 t.val) :=
  cTop_congr (off4_eq t) _
@[sl_canon] theorem name5 (h2 : 2 ≤ t.val) (hh hs) : (oM.slice (Rect.unit (s := S32x96x98x98) (k0_off5 (grid0.coords t)) S1x96x1x98.size hh) hs).squeeze S96x1x98 squeezes_S1x96x1x98_S96x1x98 = oTop (bk 32 (t.val - 2)) :=
  oTop_congr (off5_eq t h2) _ _
@[sl_canon] theorem name6 (hh hs) : (rowM.slice (Rect.unit (s := S2x96x2x98) (k0_off6 (grid0.coords t)) S1x96x1x98.size hh) hs).squeeze S96x1x98 squeezes_S1x96x1x98_S96x1x98 = tTop (sl 2 t.val) :=
  tTop_congr (off6_eq t) _ _
@[sl_canon] theorem name7 (hh) : (cc0_scratch3.slice (Rect.unit (s := S2x2) (k0_off7 (grid0.coords t)) S1x1.size hh)).squeeze S_ squeezes_S1x1_S_ = cBot (sl 2 t.val) :=
  cBot_congr (off7_eq t) _
@[sl_canon] theorem name8 (h2 : 2 ≤ t.val) (hh hs) : (oM.slice (Rect.unit (s := S32x96x98x98) (k0_off8 (grid0.coords t)) S1x96x1x98.size hh) hs).squeeze S96x1x98 squeezes_S1x96x1x98_S96x1x98 = oBot (bk 32 (t.val - 2)) :=
  oBot_congr (off8_eq t h2) _ _
@[sl_canon] theorem name9 (hh hs) : (rowM.slice (Rect.unit (s := S2x96x2x98) (k0_off9 (grid0.coords t)) S1x96x1x98.size hh) hs).squeeze S96x1x98 squeezes_S1x96x1x98_S96x1x98 = tBot (sl 2 t.val) :=
  tBot_congr (off9_eq t) _ _
@[sl_canon] theorem name13 (hh) : (cc0_scratch2.slice (Rect.unit (s := S2) (k0_off13 (grid0.coords t)) S1.size hh)).squeeze S_ squeezes_S1_S_ = cMid (sl 2 t.val) :=
  cMid_congr (off13_eq t) _
@[sl_canon] theorem name14 (hh hs) : (oM.slice (Rect.unit (s := S32x96x98x98) (k0_off14 (grid0.coords t)) S1x96x96x98.size hh) hs).squeeze S96x96x98 squeezes_S1x96x96x98_S96x96x98 = oMid (bk 32 t.val) :=
  oMid_congr (off14_eq t) _ _
@[sl_canon] theorem name15 (hh hs) : (midM.slice (Rect.unit (s := S2x96x96x98) (k0_off15 (grid0.coords t)) S1x96x96x98.size hh) hs).squeeze S96x96x98 squeezes_S1x96x96x98_S96x96x98 = tMid (sl 2 t.val) :=
  tMid_congr (off15_eq t) _ _
@[sl_canon] theorem name16 (hh) : (cc0_scratch3.slice (Rect.unit (s := S2x2) (k0_off16 (grid0.coords t)) S1x1.size hh)).squeeze S_ squeezes_S1x1_S_ = cTop (sl 2 t.val) :=
  cTop_congr (off16_eq t) _
@[sl_canon] theorem name17 (hh hs) : (oM.slice (Rect.unit (s := S32x96x98x98) (k0_off17 (grid0.coords t)) S1x96x1x98.size hh) hs).squeeze S96x1x98 squeezes_S1x96x1x98_S96x1x98 = oTop (bk 32 t.val) :=
  oTop_congr (off17_eq t) _ _
@[sl_canon] theorem name18 (hh hs) : (rowM.slice (Rect.unit (s := S2x96x2x98) (k0_off18 (grid0.coords t)) S1x96x1x98.size hh) hs).squeeze S96x1x98 squeezes_S1x96x1x98_S96x1x98 = tTop (sl 2 t.val) :=
  tTop_congr (off18_eq t) _ _
@[sl_canon] theorem name19 (hh) : (cc0_scratch3.slice (Rect.unit (s := S2x2) (k0_off19 (grid0.coords t)) S1x1.size hh)).squeeze S_ squeezes_S1x1_S_ = cBot (sl 2 t.val) :=
  cBot_congr (off19_eq t) _
@[sl_canon] theorem name20 (hh hs) : (oM.slice (Rect.unit (s := S32x96x98x98) (k0_off20 (grid0.coords t)) S1x96x1x98.size hh) hs).squeeze S96x1x98 squeezes_S1x96x1x98_S96x1x98 = oBot (bk 32 t.val) :=
  oBot_congr (off20_eq t) _ _
@[sl_canon] theorem name21 (hh hs) : (rowM.slice (Rect.unit (s := S2x96x2x98) (k0_off21 (grid0.coords t)) S1x96x1x98.size hh) hs).squeeze S96x1x98 squeezes_S1x96x1x98_S96x1x98 = tBot (sl 2 t.val) :=
  tBot_congr (off21_eq t) _ _
@[sl_canon] theorem name22 (hl : t.val + 1 = 32) (hh) : (cc0_scratch2.slice (Rect.unit (s := S2) (k0_off22 (grid0.coords t)) S1.size hh)).squeeze S_ squeezes_S1_S_ = cMid (sl 2 (t.val + 1)) :=
  cMid_congr (off22_eq t hl) _
@[sl_canon] theorem name23 (hl : t.val + 1 = 32) (hh hs) : (oM.slice (Rect.unit (s := S32x96x98x98) (k0_off23 (grid0.coords t)) S1x96x96x98.size hh) hs).squeeze S96x96x98 squeezes_S1x96x96x98_S96x96x98 = oMid (bk 32 (t.val - 1)) :=
  oMid_congr (off23_eq t hl) _ _
@[sl_canon] theorem name24 (hl : t.val + 1 = 32) (hh hs) : (midM.slice (Rect.unit (s := S2x96x96x98) (k0_off24 (grid0.coords t)) S1x96x96x98.size hh) hs).squeeze S96x96x98 squeezes_S1x96x96x98_S96x96x98 = tMid (sl 2 (t.val + 1)) :=
  tMid_congr (off24_eq t hl) _ _
@[sl_canon] theorem name25 (hl : t.val + 1 = 32) (hh) : (cc0_scratch3.slice (Rect.unit (s := S2x2) (k0_off25 (grid0.coords t)) S1x1.size hh)).squeeze S_ squeezes_S1x1_S_ = cTop (sl 2 (t.val + 1)) :=
  cTop_congr (off25_eq t hl) _
@[sl_canon] theorem name26 (hl : t.val + 1 = 32) (hh hs) : (oM.slice (Rect.unit (s := S32x96x98x98) (k0_off26 (grid0.coords t)) S1x96x1x98.size hh) hs).squeeze S96x1x98 squeezes_S1x96x1x98_S96x1x98 = oTop (bk 32 (t.val - 1)) :=
  oTop_congr (off26_eq t hl) _ _
@[sl_canon] theorem name27 (hl : t.val + 1 = 32) (hh hs) : (rowM.slice (Rect.unit (s := S2x96x2x98) (k0_off27 (grid0.coords t)) S1x96x1x98.size hh) hs).squeeze S96x1x98 squeezes_S1x96x1x98_S96x1x98 = tTop (sl 2 (t.val + 1)) :=
  tTop_congr (off27_eq t hl) _ _
@[sl_canon] theorem name28 (hl : t.val + 1 = 32) (hh) : (cc0_scratch3.slice (Rect.unit (s := S2x2) (k0_off28 (grid0.coords t)) S1x1.size hh)).squeeze S_ squeezes_S1x1_S_ = cBot (sl 2 (t.val + 1)) :=
  cBot_congr (off28_eq t hl) _
@[sl_canon] theorem name29 (hl : t.val + 1 = 32) (hh hs) : (oM.slice (Rect.unit (s := S32x96x98x98) (k0_off29 (grid0.coords t)) S1x96x1x98.size hh) hs).squeeze S96x1x98 squeezes_S1x96x1x98_S96x1x98 = oBot (bk 32 (t.val - 1)) :=
  oBot_congr (off29_eq t hl) _ _
@[sl_canon] theorem name30 (hl : t.val + 1 = 32) (hh hs) : (rowM.slice (Rect.unit (s := S2x96x2x98) (k0_off30 (grid0.coords t)) S1x96x1x98.size hh) hs).squeeze S96x1x98 squeezes_S1x96x1x98_S96x1x98 = tBot (sl 2 (t.val + 1)) :=
  tBot_congr (off30_eq t hl) _ _
@[sl_canon] theorem name31 (hh) : (cc0_scratch2.slice (Rect.unit (s := S2) (k0_off31 (grid0.coords t)) S1.size hh)).squeeze S_ squeezes_S1_S_ = cMid (sl 2 t.val) :=
  cMid_congr (off31_eq t) _
@[sl_canon] theorem name32 (hh hs) : (oM.slice (Rect.unit (s := S32x96x98x98) (k0_off32 (grid0.coords t)) S1x96x96x98.size hh) hs).squeeze S96x96x98 squeezes_S1x96x96x98_S96x96x98 = oMid (bk 32 t.val) :=
  oMid_congr (off32_eq t) _ _
@[sl_canon] theorem name33 (hh hs) : (midM.slice (Rect.unit (s := S2x96x96x98) (k0_off33 (grid0.coords t)) S1x96x96x98.size hh) hs).squeeze S96x96x98 squeezes_S1x96x96x98_S96x96x98 = tMid (sl 2 t.val) :=
  tMid_congr (off33_eq t) _ _
@[sl_canon] theorem name34 (hh) : (cc0_scratch3.slice (Rect.unit (s := S2x2) (k0_off34 (grid0.coords t)) S1x1.size hh)).squeeze S_ squeezes_S1x1_S_ = cTop (sl 2 t.val) :=
  cTop_congr (off34_eq t) _
@[sl_canon] theorem name35 (hh hs) : (oM.slice (Rect.unit (s := S32x96x98x98) (k0_off35 (grid0.coords t)) S1x96x1x98.size hh) hs).squeeze S96x1x98 squeezes_S1x96x1x98_S96x1x98 = oTop (bk 32 t.val) :=
  oTop_congr (off35_eq t) _ _
@[sl_canon] theorem name36 (hh hs) : (rowM.slice (Rect.unit (s := S2x96x2x98) (k0_off36 (grid0.coords t)) S1x96x1x98.size hh) hs).squeeze S96x1x98 squeezes_S1x96x1x98_S96x1x98 = tTop (sl 2 t.val) :=
  tTop_congr (off36_eq t) _ _
@[sl_canon] theorem name37 (hh) : (cc0_scratch3.slice (Rect.unit (s := S2x2) (k0_off37 (grid0.coords t)) S1x1.size hh)).squeeze S_ squeezes_S1x1_S_ = cBot (sl 2 t.val) :=
  cBot_congr (off37_eq t) _
@[sl_canon] theorem name38 (hh hs) : (oM.slice (Rect.unit (s := S32x96x98x98) (k0_off38 (grid0.coords t)) S1x96x1x98.size hh) hs).squeeze S96x1x98 squeezes_S1x96x1x98_S96x1x98 = oBot (bk 32 t.val) :=
  oBot_congr (off38_eq t) _ _
@[sl_canon] theorem name39 (hh hs) : (rowM.slice (Rect.unit (s := S2x96x2x98) (k0_off39 (grid0.coords t)) S1x96x1x98.size hh) hs).squeeze S96x1x98 squeezes_S1x96x1x98_S96x1x98 = tBot (sl 2 t.val) :=
  tBot_congr (off39_eq t) _ _

end Canon

end Cert.KernelIdeal.Pad

end
-- ==== Proof.BodyIdeal.lean ====
module

public import proofs.«01_k».proof.Proof.NamesIdeal
public import Idealize.ShloMosaic.Lib.VecWindow

@[expose] public section

set_option maxRecDepth 16384

noncomputable section

namespace Cert.KernelIdeal.Pad

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)

variable {F : FTy → Type} [FloatOps F]

local notation "𝕄" => MT nD τ sig Unit (Elt F) ℕ (Pipeline.UD sig nD τ) ℕ
abbrev 𝒱₀ : Variants := Variants.none

section Pieces
variable (c : Dev nD)

/-- A memref's elements held at contents `f`. -/
abbrev held {sp} {s : Shape} (M : Memref sig .tc sp s .f32) (f : Buf (Elt F) (M.view.loc (c : Thread nD τ))) : sProp 𝕄 :=
  M.view.loc (c : Thread nD τ) ↦[M.view.set]{fullShare} f
/-- A cell at zero. -/
abbrev cellP (A : DmaSems sig S_) : sProp 𝕄 := semVal ((c : Thread nD τ), SemLoc.dma A.sem) 0
/-- A copy in flight on a cell: it will bring the piece it writes at `f` and the tile it reads at `g`. -/
abbrev flight {sp sp'} {s : Shape} (A : DmaSems sig S_) (N : ℕ) (D : Memref sig .tc sp s .f32) (T : Memref sig .tc sp' s .f32)
    (f : Buf (Elt F) (D.view.loc (c : Thread nD τ))) (g : Buf (Elt F) (T.view.loc (c : Thread nD τ))) : sProp 𝕄 :=
  Transfers.Flight countersEmb (c : Thread nD τ) (SemLoc.dma A.sem) () N iprop(held c D f ∗ held c T g)

variable (pM : Fin 32 → S96x96x98.Idx → F .f32) (pT pB : Fin 32 → S96x1x98.Idx → F .f32)

/-- Grid point `u`'s three pieces of the result before they are written: at anything. -/
def aheadP (u : Fin 32) : sProp 𝕄 :=
  iprop((∃ f, held c (oMid u) f) ∗ (∃ f, held c (oTop u) f) ∗ ∃ f, held c (oBot u) f)
/-- They once their copies landed: they read as the point's three payloads. -/
def behindP (u : Fin 32) : sProp 𝕄 :=
  iprop((∃ f, ⌜(oMid u).view.read (Elt F) f = pM u⌝ ∗ held c (oMid u) f)
    ∗ (∃ f, ⌜(oTop u).view.read (Elt F) f = pT u⌝ ∗ held c (oTop u) f)
    ∗ ∃ f, ⌜(oBot u).view.read (Elt F) f = pB u⌝ ∗ held c (oBot u) f)
/-- A free slot: its three tiles at anything, its three cells at zero. -/
def freeP (g : Fin 2) : sProp 𝕄 :=
  iprop((∃ f, held c (tMid g) f) ∗ (∃ f, held c (tTop g) f) ∗ (∃ f, held c (tBot g) f)
    ∗ cellP c (cMid g) ∗ cellP c (cTop g) ∗ cellP c (cBot g))
/-- A slot in flight with the copies of grid point `u`. -/
def inflP (g : Fin 2) (u : Fin 32) : sProp 𝕄 :=
  iprop((∃ f h, ⌜(oMid u).view.read (Elt F) f = pM u⌝ ∗ flight c (cMid g) 147456 (oMid u) (tMid g) f h)
    ∗ (∃ f h, ⌜(oTop u).view.read (Elt F) f = pT u⌝ ∗ flight c (cTop g) 1536 (oTop u) (tTop g) f h)
    ∗ ∃ f h, ⌜(oBot u).view.read (Elt F) f = pB u⌝ ∗ flight c (cBot g) 1536 (oBot u) (tBot g) f h)

end Pieces

/-! ## What one grid point writes -/

/-- The rows in the middle, from the block of `x` and the matrix of the columns. -/
def PM (X : Vec F S1x96x96x96 .f32) (A : Vec F S1x96x98 .f32) : FVec F S96x96x98 .f32 :=
  shapeCast S96x96x98 (k0_pay2 X A) (by decide)
/-- The patch's row in the grid of patches, of grid point `t`; -/
def ptRow (t : Fin grid0.N) : BitVec 32 := Scalar.divsi (Scalar.remsi (BitVec.ofNat 32 ((grid0.coords t) 0).val) 16#32) 4#32
/-- its column. -/
def ptCol (t : Fin grid0.N) : BitVec 32 := Scalar.remsi (Scalar.remsi (BitVec.ofNat 32 ((grid0.coords t) 0).val) 16#32) 4#32
/-- The first row, from the block of `x` and the matrix of the rows; -/
def PT (t : Fin grid0.N) (X : Vec F S1x96x96x96 .f32) (A : Vec F S96x98 .f32) : FVec F S96x1x98 .f32 :=
  shapeCast S96x1x98 (k0_pay6 (Scalar.cmpi .eq (ptRow t) 0#32) (Scalar.cmpi .eq (ptCol t) 0#32) (Scalar.cmpi .eq (ptCol t) 3#32)
    (k0_pay3 X A) (iota .tc S1x98 32 [1] iota_S1x98_d1_w32) k0_pay4) (by decide)
/-- the last. -/
def PB (t : Fin grid0.N) (X : Vec F S1x96x96x96 .f32) (A : Vec F S96x98 .f32) : FVec F S96x1x98 .f32 :=
  shapeCast S96x1x98 (k0_pay7 (Scalar.cmpi .eq (ptRow t) 3#32) (Scalar.cmpi .eq (ptCol t) 0#32) (Scalar.cmpi .eq (ptCol t) 3#32)
    (k0_pay3 X A) (iota .tc S1x98 32 [1] iota_S1x98_d1_w32) k0_pay4) (by decide)

/-! ## Reading back -/

section ReadBack
variable {F : FTy → Type}
/-- A copy that filled a memref whole left it at what was copied. -/
theorem read_filled {sp : Space} {s : Shape} (M : Memref sig .tc sp s .f32) (f : M.view.ty.Contents (Elt F)) (w : s.Idx → F .f32) :
    M.view.read (Elt F) (M.view.writes (Elt F) f [⟨Rect.whole s, w⟩]) = w := by
  funext x
  have h := View.read_write_of_mem (v := M.view.slice (Rect.whole s)) f w (Finset.mem_univ x)
  have e : (M.view.slice (Rect.whole s)).emb x = M.view.emb x := congrArg M.view.emb (Rect.emb_whole_apply s x)
  rw [View.read_apply] at h ⊢
  rw [← e]
  exact h
/-- A tile reads the payload stored at its slice of the buffer. -/
theorem read_tMid {g : Fin 2} {off : Fin 4 → Nat} (e : off = tileOff g) (hh) (f) (w : S1x96x96x98.Idx → F .f32) :
    (tMid g).view.read (Elt F) (View.write (Elt F) (midM.access (Rect.unit (s := S2x96x96x98) off S1x96x96x98.size hh)) f w Finset.univ)
      = shapeCast S96x96x98 w (by decide) := by
  subst e; funext x
  exact View.read_write_of_mem (v := (midM.slice (Rect.unit (s := S2x96x96x98) (tileOff g) S1x96x96x98.size (tileOff_inb g)) (fun _ => rfl)).view) f w
    (Finset.mem_univ _)
theorem read_tTop {g : Fin 2} {off : Fin 4 → Nat} (e : off = tileOff g) (hh) (f) (w : S1x96x1x98.Idx → F .f32) :
    (tTop g).view.read (Elt F) (View.write (Elt F) (rowM.access (Rect.unit (s := S2x96x2x98) off S1x96x1x98.size hh)) f w Finset.univ)
      = shapeCast S96x1x98 w (by decide) := by
  subst e; funext x
  exact View.read_write_of_mem (v := (rowM.slice (Rect.unit (s := S2x96x2x98) (tileOff g) S1x96x1x98.size (tileOffT_inb g)) (fun _ => rfl)).view) f w
    (Finset.mem_univ _)
theorem read_tBot {g : Fin 2} {off : Fin 4 → Nat} (e : off = tileOff1 g) (hh) (f) (w : S1x96x1x98.Idx → F .f32) :
    (tBot g).view.read (Elt F) (View.write (Elt F) (rowM.access (Rect.unit (s := S2x96x2x98) off S1x96x1x98.size hh)) f w Finset.univ)
      = shapeCast S96x1x98 w (by decide) := by
  subst e; funext x
  exact View.read_write_of_mem (v := (rowM.slice (Rect.unit (s := S2x96x2x98) (tileOff1 g) S1x96x1x98.size (tileOffB_inb g)) (fun _ => rfl)).view) f w
    (Finset.mem_univ _)
end ReadBack

section Body
variable (c : Dev nD) (t : Fin grid0.N)
  (arg1 : Memref sig .tc .vmem S1x96x96x96 .f32) (harg1 : arg1.IsWhole)
  (arg2 : Memref sig .tc .vmem S1x96x98 .f32) (harg2 : arg2.IsWhole)
  (arg3 : Memref sig .tc .vmem S96x98 .f32) (harg3 : arg3.IsWhole)

abbrev bodyG : Prog (TpuEff nD τ sig (Elt F) Λ₀ .tc) PUnit :=
  cc0__body (grid0.coords t) arg1 harg1 arg2 harg2 arg3 harg3 oM (Memref.isWhole_whole _) midM (Memref.isWhole_whole _) rowM (Memref.isWhole_whole _) cc0_scratch2 cc0_scratch3

variable (pM : Fin 32 → S96x96x98.Idx → F .f32) (pT pB : Fin 32 → S96x1x98.Idx → F .f32)
variable (g1 : Buf (Elt F) (arg1.view.loc (c : Thread nD τ))) (g2 : Buf (Elt F) (arg2.view.loc (c : Thread nD τ)))
  (g3 : Buf (Elt F) (arg3.view.loc (c : Thread nD τ)))

/-- A grid point that finds its slot in flight and is not the last: it waits for the slot's copies, refills the slot and
    copies it out. -/
theorem run_mid (h2 : 2 ≤ t.val) (hl : ¬ t.val + 1 = 32)
    (eM : pM (bk 32 t.val) = PM (arg1.view.read (Elt F) g1) (arg2.view.read (Elt F) g2))
    (eT : pT (bk 32 t.val) = PT t (arg1.view.read (Elt F) g1) (arg3.view.read (Elt F) g3))
    (eB : pB (bk 32 t.val) = PB t (arg1.view.read (Elt F) g1) (arg3.view.read (Elt F) g3)) (W) (Q : PUnit → sProp 𝕄) :
    iprop((held c arg1 g1 ∗ held c arg2 g2 ∗ held c arg3 g3
        ∗ inflP c pM pT pB (sl 2 t.val) (bk 32 (t.val - 2)) ∗ aheadP c (bk 32 t.val) ∗ owes (c : Thread nD τ) 0 W)
      ∗ (held c arg1 g1 -∗ held c arg2 g2 -∗ held c arg3 g3
        -∗ behindP c pM pT pB (bk 32 (t.val - 2)) -∗ inflP c pM pT pB (sl 2 t.val) (bk 32 t.val)
        -∗ (∃ W', owes (c : Thread nD τ) 0 W') -∗ Q ⟨⟩))
      ⊢ wp frame (wpE (defs₀ (F := F)) 𝒱₀ (c : Thread nD τ) none) Set.univ (bodyG t arg1 harg1 arg2 harg2 arg3 harg3) Q := by
  have hc1 : k0_cond1 (grid0.coords t) = 1#1 := (cond1_iff t).mpr h2
  have hc2 : ¬ k0_cond2 (grid0.coords t) = 1#1 := fun h => hl ((cond2_iff t).mp h)
  unfold inflP aheadP behindP
  iintro ⟨⟨H1, H2, H3, ⟨⟨%fM, %gM, %rM, HfM⟩, ⟨%fT, %gT, %rT, HfT⟩, ⟨%fB, %gB, %rB, HfB⟩⟩, ⟨⟨%oM', HoM⟩, ⟨%oT', HoT⟩, ⟨%oB', HoB⟩⟩, HW⟩, Hk⟩
  sl_exec
  sl_step
  ispecialize Hk $$ H1
  ispecialize Hk $$ H2
  ispecialize Hk $$ H3
  ispecialize Hk $$ [HfM_dst HfT_dst HfB_dst]
  · isplitl [HfM_dst]
    · iexists fM; isplitr; · ipureintro; exact rM
      iexact HfM_dst
    isplitl [HfT_dst]
    · iexists fT; isplitr; · ipureintro; exact rT
      iexact HfT_dst
    iexists fB; isplitr; · ipureintro; exact rB
    iexact HfB_dst
  ispecialize Hk $$ [HfM HfT HfB]
  · isplitl [HfM]
    · iexists _; iexists _; isplitr; rotate_left; · iexact HfM
      ipureintro; rw [read_filled, eM]
      unfold run_mid.sl.dma9
      exact (read_tMid (off10_eq t) _ _ _).trans (by rw [View.readAt_full, View.readAt_full]; rfl)
    isplitl [HfT]
    · iexists _; iexists _; isplitr; rotate_left; · iexact HfT
      ipureintro; rw [read_filled, eT]
      unfold run_mid.sl.dma9_1
      exact (read_tTop (off11_eq t) _ _ _).trans (by unfold run_mid.sl.r; rw [View.readAt_full, View.readAt_full]; rfl)
    iexists _; iexists _; isplitr; rotate_left; · iexact HfB
    ipureintro; rw [read_filled, eB]
    unfold run_mid.sl.dma9_2
    exact (read_tBot (off12_eq t) _ _ _).trans (by unfold run_mid.sl.r; rw [View.readAt_full, View.readAt_full]; rfl)
  iapply Hk
  iexists _; iexact HW

/-- One of the first two grid points: its slot is free, it fills the slot and copies it out. -/
theorem run_first (h2 : ¬ 2 ≤ t.val) (hl : ¬ t.val + 1 = 32)
    (eM : pM (bk 32 t.val) = PM (arg1.view.read (Elt F) g1) (arg2.view.read (Elt F) g2))
    (eT : pT (bk 32 t.val) = PT t (arg1.view.read (Elt F) g1) (arg3.view.read (Elt F) g3))
    (eB : pB (bk 32 t.val) = PB t (arg1.view.read (Elt F) g1) (arg3.view.read (Elt F) g3)) (W) (Q : PUnit → sProp 𝕄) :
    iprop((held c arg1 g1 ∗ held c arg2 g2 ∗ held c arg3 g3
        ∗ freeP c (sl 2 t.val) ∗ aheadP c (bk 32 t.val) ∗ owes (c : Thread nD τ) 0 W)
      ∗ (held c arg1 g1 -∗ held c arg2 g2 -∗ held c arg3 g3
        -∗ inflP c pM pT pB (sl 2 t.val) (bk 32 t.val)
        -∗ (∃ W', owes (c : Thread nD τ) 0 W') -∗ Q ⟨⟩))
      ⊢ wp frame (wpE (defs₀ (F := F)) 𝒱₀ (c : Thread nD τ) none) Set.univ (bodyG t arg1 harg1 arg2 harg2 arg3 harg3) Q := by
  have hc1 : ¬ k0_cond1 (grid0.coords t) = 1#1 := fun h => h2 ((cond1_iff t).mp h)
  have hc2 : ¬ k0_cond2 (grid0.coords t) = 1#1 := fun h => hl ((cond2_iff t).mp h)
  unfold inflP aheadP freeP
  iintro ⟨⟨H1, H2, H3, ⟨⟨%gM, HtM⟩, ⟨%gT, HtT⟩, ⟨%gB, HtB⟩, HfM, HfT, HfB⟩, ⟨⟨%oM', HoM⟩, ⟨%oT', HoT⟩, ⟨%oB', HoB⟩⟩, HW⟩, Hk⟩
  sl_exec
  sl_step
  ispecialize Hk $$ H1
  ispecialize Hk $$ H2
  ispecialize Hk $$ H3
  ispecialize Hk $$ [HfM HfT HfB]
  · isplitl [HfM]
    · iexists _; iexists _; isplitr; rotate_left; · iexact HfM
      ipureintro; rw [read_filled, eM]
      unfold run_first.sl.dma9
      exact (read_tMid (off10_eq t) _ _ _).trans (by rw [View.readAt_full, View.readAt_full]; rfl)
    isplitl [HfT]
    · iexists _; iexists _; isplitr; rotate_left; · iexact HfT
      ipureintro; rw [read_filled, eT]
      unfold run_first.sl.dma9_1
      exact (read_tTop (off11_eq t) _ _ _).trans (by unfold run_first.sl.r; rw [View.readAt_full, View.readAt_full]; rfl)
    iexists _; iexists _; isplitr; rotate_left; · iexact HfB
    ipureintro; rw [read_filled, eB]
    unfold run_first.sl.dma9_2
    exact (read_tBot (off12_eq t) _ _ _).trans (by unfold run_first.sl.r; rw [View.readAt_full, View.readAt_full]; rfl)
  iapply Hk
  iexists _; iexact HW

/-- The last grid point: it waits for its slot's copies, refills the slot and copies it out, and then waits for the copies of
    the other slot and for its own. -/
theorem run_last (h2 : 2 ≤ t.val) (hl : t.val + 1 = 32)
    (eM : pM (bk 32 t.val) = PM (arg1.view.read (Elt F) g1) (arg2.view.read (Elt F) g2))
    (eT : pT (bk 32 t.val) = PT t (arg1.view.read (Elt F) g1) (arg3.view.read (Elt F) g3))
    (eB : pB (bk 32 t.val) = PB t (arg1.view.read (Elt F) g1) (arg3.view.read (Elt F) g3)) (W) (Q : PUnit → sProp 𝕄) :
    iprop((held c arg1 g1 ∗ held c arg2 g2 ∗ held c arg3 g3
        ∗ inflP c pM pT pB (sl 2 t.val) (bk 32 (t.val - 2)) ∗ inflP c pM pT pB (sl 2 (t.val + 1)) (bk 32 (t.val - 1)) ∗ aheadP c (bk 32 t.val) ∗ owes (c : Thread nD τ) 0 W)
      ∗ (held c arg1 g1 -∗ held c arg2 g2 -∗ held c arg3 g3
        -∗ behindP c pM pT pB (bk 32 t.val) -∗ behindP c pM pT pB (bk 32 (t.val - 2)) -∗ behindP c pM pT pB (bk 32 (t.val - 1))
        -∗ freeP c (sl 2 t.val) -∗ freeP c (sl 2 (t.val + 1))
        -∗ (∃ W', owes (c : Thread nD τ) 0 W') -∗ Q ⟨⟩))
      ⊢ wp frame (wpE (defs₀ (F := F)) 𝒱₀ (c : Thread nD τ) none) Set.univ (bodyG t arg1 harg1 arg2 harg2 arg3 harg3) Q := by
  have hc1 : k0_cond1 (grid0.coords t) = 1#1 := (cond1_iff t).mpr h2
  have hc2 : k0_cond2 (grid0.coords t) = 1#1 := (cond2_iff t).mpr hl
  unfold inflP aheadP behindP freeP
  iintro ⟨⟨H1, H2, H3, ⟨⟨%fM, %gM, %rM, HfM⟩, ⟨%fT, %gT, %rT, HfT⟩, ⟨%fB, %gB, %rB, HfB⟩⟩, ⟨⟨%fM2, %gM2, %rM2, HgM⟩, ⟨%fT2, %gT2, %rT2, HgT⟩, ⟨%fB2, %gB2, %rB2, HgB⟩⟩, ⟨⟨%oM', HoM⟩, ⟨%oT', HoT⟩, ⟨%oB', HoB⟩⟩, HW⟩, Hk⟩
  sl_exec
  sl_step
  ispecialize Hk $$ H1
  ispecialize Hk $$ H2
  ispecialize Hk $$ H3
  ispecialize Hk $$ [HoM HoT HoB]
  · isplitl [HoM]
    · iexists _; isplitr; rotate_left; · iexact HoM
      ipureintro; rw [read_filled, eM]
      unfold run_last.sl.dma9
      exact (read_tMid (off10_eq t) _ _ _).trans (by rw [View.readAt_full, View.readAt_full]; rfl)
    isplitl [HoT]
    · iexists _; isplitr; rotate_left; · iexact HoT
      ipureintro; rw [read_filled, eT]
      unfold run_last.sl.dma9_1
      exact (read_tTop (off11_eq t) _ _ _).trans (by unfold run_last.sl.r; rw [View.readAt_full, View.readAt_full]; rfl)
    iexists _; isplitr; rotate_left; · iexact HoB
    ipureintro; rw [read_filled, eB]
    unfold run_last.sl.dma9_2
    exact (read_tBot (off12_eq t) _ _ _).trans (by unfold run_last.sl.r; rw [View.readAt_full, View.readAt_full]; rfl)
  ispecialize Hk $$ [HfM_dst HfT_dst HfB_dst]
  · isplitl [HfM_dst]
    · iexists fM; isplitr; · ipureintro; exact rM
      iexact HfM_dst
    isplitl [HfT_dst]
    · iexists fT; isplitr; · ipureintro; exact rT
      iexact HfT_dst
    iexists fB; isplitr; · ipureintro; exact rB
    iexact HfB_dst
  ispecialize Hk $$ [HgM_dst HgT_dst HgB_dst]
  · isplitl [HgM_dst]
    · iexists fM2; isplitr; · ipureintro; exact rM2
      iexact HgM_dst
    isplitl [HgT_dst]
    · iexists fT2; isplitr; · ipureintro; exact rT2
      iexact HgT_dst
    iexists fB2; isplitr; · ipureintro; exact rB2
    iexact HgB_dst
  ispecialize Hk $$ [HfM_src HfT_src HfB_src HfM HfT HfB]
  · isplitl [HfM_src]; · iexists _; iexact HfM_src
    isplitl [HfT_src]; · iexists _; iexact HfT_src
    isplitl [HfB_src]; · iexists _; iexact HfB_src
    isplitl [HfM]; · iexact HfM
    isplitl [HfT]; · iexact HfT
    iexact HfB
  ispecialize Hk $$ [HgM_src HgT_src HgB_src HgM HgT HgB]
  · isplitl [HgM_src]; · iexists _; iexact HgM_src
    isplitl [HgT_src]; · iexists _; iexact HgT_src
    isplitl [HgB_src]; · iexists _; iexact HgB_src
    isplitl [HgM]; · iexact HgM
    isplitl [HgT]; · iexact HgT
    iexact HgB
  iapply Hk
  iexists _; iexact HW

end Body

end Cert.KernelIdeal.Pad

end
-- ==== Proof.PiecesIdeal.lean ====
module

public import proofs.«01_k».proof.Proof.BodyIdeal
public import Idealize.ShloMosaic.Lib.ValueLayout
public import Idealize.ShloMosaic.Lib.ViewIndex

@[expose] public section

set_option maxRecDepth 16384

noncomputable section

namespace Cert.KernelIdeal.Pad

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)

variable {F : FTy → Type} [FloatOps F]

local notation "𝕄" => MT nD τ sig Unit (Elt F) ℕ (Pipeline.UD sig nD τ) ℕ

section Sets

abbrev oMidS (u : Fin 32) : Finset S32x96x98x98.Idx := (Rect.unit (s := S32x96x98x98) (midOff u) S1x96x96x98.size (midOff_inb u)).set
theorem oMid_set (u : Fin 32) : (oMid u).view.set = oMidS u := (View.set_reshape _ _).trans (View.set_slice_whole _ _)
/-- The elements of the rows in the middle, of the first row, of the last row of grid point `u`. -/
theorem mem_oMid (u : Fin 32) (y : S32x96x98x98.Idx) : y ∈ oMidS u ↔ (y 0).val = u.val ∧ 1 ≤ (y 2).val ∧ (y 2).val < 97 := by
  rw [Rect.mem_set_unit]
  have h1 : (y 1).val < 96 := (y 1).isLt
  have h3 : (y 3).val < 98 := (y 3).isLt
  constructor
  · intro H
    have a0 : u.val ≤ (y 0).val ∧ (y 0).val < u.val + 1 := H 0
    have a2 : 1 ≤ (y 2).val ∧ (y 2).val < 1 + 96 := H 2
    omega
  · intro H i; fin_cases i
    · show u.val ≤ (y 0).val ∧ (y 0).val < u.val + 1; omega
    · show 0 ≤ (y 1).val ∧ (y 1).val < 0 + 96; omega
    · show 1 ≤ (y 2).val ∧ (y 2).val < 1 + 96; omega
    · show 0 ≤ (y 3).val ∧ (y 3).val < 0 + 98; omega
abbrev oTopS (u : Fin 32) : Finset S32x96x98x98.Idx := (Rect.unit (s := S32x96x98x98) (topOff u) S1x96x1x98.size (topOff_inb u)).set
theorem oTop_set (u : Fin 32) : (oTop u).view.set = oTopS u := (View.set_reshape _ _).trans (View.set_slice_whole _ _)
theorem mem_oTop (u : Fin 32) (y : S32x96x98x98.Idx) : y ∈ oTopS u ↔ (y 0).val = u.val ∧ (y 2).val = 0 := by
  rw [Rect.mem_set_unit]
  have h1 : (y 1).val < 96 := (y 1).isLt
  have h3 : (y 3).val < 98 := (y 3).isLt
  constructor
  · intro H
    have a0 : u.val ≤ (y 0).val ∧ (y 0).val < u.val + 1 := H 0
    have a2 : 0 ≤ (y 2).val ∧ (y 2).val < 0 + 1 := H 2
    omega
  · intro H i; fin_cases i
    · show u.val ≤ (y 0).val ∧ (y 0).val < u.val + 1; omega
    · show 0 ≤ (y 1).val ∧ (y 1).val < 0 + 96; omega
    · show 0 ≤ (y 2).val ∧ (y 2).val < 0 + 1; omega
    · show 0 ≤ (y 3).val ∧ (y 3).val < 0 + 98; omega
abbrev oBotS (u : Fin 32) : Finset S32x96x98x98.Idx := (Rect.unit (s := S32x96x98x98) (botOff u) S1x96x1x98.size (botOff_inb u)).set
theorem oBot_set (u : Fin 32) : (oBot u).view.set = oBotS u := (View.set_reshape _ _).trans (View.set_slice_whole _ _)
theorem mem_oBot (u : Fin 32) (y : S32x96x98x98.Idx) : y ∈ oBotS u ↔ (y 0).val = u.val ∧ (y 2).val = 97 := by
  rw [Rect.mem_set_unit]
  have h1 : (y 1).val < 96 := (y 1).isLt
  have h3 : (y 3).val < 98 := (y 3).isLt
  constructor
  · intro H
    have a0 : u.val ≤ (y 0).val ∧ (y 0).val < u.val + 1 := H 0
    have a2 : 97 ≤ (y 2).val ∧ (y 2).val < 97 + 1 := H 2
    omega
  · intro H i; fin_cases i
    · show u.val ≤ (y 0).val ∧ (y 0).val < u.val + 1; omega
    · show 0 ≤ (y 1).val ∧ (y 1).val < 0 + 96; omega
    · show 97 ≤ (y 2).val ∧ (y 2).val < 97 + 1; omega
    · show 0 ≤ (y 3).val ∧ (y 3).val < 0 + 98; omega
abbrev tMidS (s : Fin 2) : Finset S2x96x96x98.Idx := (Rect.unit (s := S2x96x96x98) (tileOff s) S1x96x96x98.size (tileOff_inb s)).set
theorem tMid_set (s : Fin 2) : (tMid s).view.set = tMidS s := (View.set_reshape _ _).trans (View.set_slice_whole _ _)
/-- The elements of the tiles of slot `s`. -/
theorem mem_tMid (s : Fin 2) (y : S2x96x96x98.Idx) : y ∈ tMidS s ↔ (y 0).val = s.val := by
  rw [Rect.mem_set_unit]
  have h1 : (y 1).val < 96 := (y 1).isLt
  have h2 : (y 2).val < 96 := (y 2).isLt
  have h3 : (y 3).val < 98 := (y 3).isLt
  constructor
  · intro H
    have a0 : s.val ≤ (y 0).val ∧ (y 0).val < s.val + 1 := H 0
    omega
  · intro H i; fin_cases i
    · show s.val ≤ (y 0).val ∧ (y 0).val < s.val + 1; omega
    · show 0 ≤ (y 1).val ∧ (y 1).val < 0 + 96; omega
    · show 0 ≤ (y 2).val ∧ (y 2).val < 0 + 96; omega
    · show 0 ≤ (y 3).val ∧ (y 3).val < 0 + 98; omega
abbrev tTopS (s : Fin 2) : Finset S2x96x2x98.Idx := (Rect.unit (s := S2x96x2x98) (tileOff s) S1x96x1x98.size (tileOffT_inb s)).set
theorem tTop_set (s : Fin 2) : (tTop s).view.set = tTopS s := (View.set_reshape _ _).trans (View.set_slice_whole _ _)
theorem mem_tTop (s : Fin 2) (y : S2x96x2x98.Idx) : y ∈ tTopS s ↔ (y 0).val = s.val ∧ (y 2).val = 0 := by
  rw [Rect.mem_set_unit]
  have h1 : (y 1).val < 96 := (y 1).isLt
  have h3 : (y 3).val < 98 := (y 3).isLt
  constructor
  · intro H
    have a0 : s.val ≤ (y 0).val ∧ (y 0).val < s.val + 1 := H 0
    have a2 : 0 ≤ (y 2).val ∧ (y 2).val < 0 + 1 := H 2
    omega
  · intro H i; fin_cases i
    · show s.val ≤ (y 0).val ∧ (y 0).val < s.val + 1; omega
    · show 0 ≤ (y 1).val ∧ (y 1).val < 0 + 96; omega
    · show 0 ≤ (y 2).val ∧ (y 2).val < 0 + 1; omega
    · show 0 ≤ (y 3).val ∧ (y 3).val < 0 + 98; omega
abbrev tBotS (s : Fin 2) : Finset S2x96x2x98.Idx := (Rect.unit (s := S2x96x2x98) (tileOff1 s) S1x96x1x98.size (tileOffB_inb s)).set
theorem tBot_set (s : Fin 2) : (tBot s).view.set = tBotS s := (View.set_reshape _ _).trans (View.set_slice_whole _ _)
theorem mem_tBot (s : Fin 2) (y : S2x96x2x98.Idx) : y ∈ tBotS s ↔ (y 0).val = s.val ∧ (y 2).val = 1 := by
  rw [Rect.mem_set_unit]
  have h1 : (y 1).val < 96 := (y 1).isLt
  have h3 : (y 3).val < 98 := (y 3).isLt
  constructor
  · intro H
    have a0 : s.val ≤ (y 0).val ∧ (y 0).val < s.val + 1 := H 0
    have a2 : 1 ≤ (y 2).val ∧ (y 2).val < 1 + 1 := H 2
    omega
  · intro H i; fin_cases i
    · show s.val ≤ (y 0).val ∧ (y 0).val < s.val + 1; omega
    · show 0 ≤ (y 1).val ∧ (y 1).val < 0 + 96; omega
    · show 1 ≤ (y 2).val ∧ (y 2).val < 1 + 1; omega
    · show 0 ≤ (y 3).val ∧ (y 3).val < 0 + 98; omega

/-- The result in pieces: per grid point its rows in the middle, its first row, its last row; -/
def JO (p : Fin 32 × Fin 3) : Finset S32x96x98x98.Idx :=
  match p.2 with
  | ⟨0, _⟩ => oMidS p.1
  | ⟨1, _⟩ => oTopS p.1
  | ⟨2, _⟩ => oBotS p.1
/-- the scratch of the two rows in tiles. -/
def JR (p : Fin 2 × Fin 2) : Finset S2x96x2x98.Idx :=
  match p.2 with
  | ⟨0, _⟩ => tTopS p.1
  | ⟨1, _⟩ => tBotS p.1
def JM (s : Fin 2) : Finset S2x96x96x98.Idx := tMidS s

theorem mem_JO (p : Fin 32 × Fin 3) (y : S32x96x98x98.Idx) :
    y ∈ JO p ↔ (y 0).val = p.1.val ∧ p.2.val = (if (y 2).val = 0 then 1 else if (y 2).val = 97 then 2 else 0) := by
  have h2 : (y 2).val < 98 := (y 2).isLt
  obtain ⟨u, k⟩ := p
  match k with
  | ⟨0, _⟩ => exact (mem_oMid u y).trans (by dsimp only; split <;> (try split) <;> omega)
  | ⟨1, _⟩ => exact (mem_oTop u y).trans (by dsimp only; split <;> (try split) <;> omega)
  | ⟨2, _⟩ => exact (mem_oBot u y).trans (by dsimp only; split <;> (try split) <;> omega)
theorem mem_JR (p : Fin 2 × Fin 2) (y : S2x96x2x98.Idx) : y ∈ JR p ↔ (y 0).val = p.1.val ∧ (y 2).val = p.2.val := by
  obtain ⟨u, k⟩ := p
  match k with
  | ⟨0, _⟩ => exact mem_tTop u y
  | ⟨1, _⟩ => exact mem_tBot u y
theorem JO_disjoint : ∀ p p' : Fin 32 × Fin 3, p ≠ p' → Disjoint (JO p) (JO p') := by
  intro p p' hne; rw [Finset.disjoint_left]; intro y hy hy'; rw [mem_JO] at hy hy'
  exact hne (Prod.ext (Fin.ext (hy.1.symm.trans hy'.1)) (Fin.ext (hy.2.trans hy'.2.symm)))
theorem JO_cover : (Finset.univ : Finset (Fin 32 × Fin 3)).biUnion JO = Finset.univ := by
  ext y; simp only [Finset.mem_biUnion, Finset.mem_univ, true_and, iff_true]
  exact ⟨((y 0).cast (by decide), ⟨if (y 2).val = 0 then 1 else if (y 2).val = 97 then 2 else 0, by split <;> (try split) <;> omega⟩),
    (mem_JO _ _).mpr ⟨rfl, rfl⟩⟩
theorem JR_disjoint : ∀ p p' : Fin 2 × Fin 2, p ≠ p' → Disjoint (JR p) (JR p') := by
  intro p p' hne; rw [Finset.disjoint_left]; intro y hy hy'; rw [mem_JR] at hy hy'
  exact hne (Prod.ext (Fin.ext (hy.1.symm.trans hy'.1)) (Fin.ext (hy.2.symm.trans hy'.2)))
theorem JR_cover : (Finset.univ : Finset (Fin 2 × Fin 2)).biUnion JR = Finset.univ := by
  ext y; simp only [Finset.mem_biUnion, Finset.mem_univ, true_and, iff_true]
  exact ⟨((y 0).cast (by decide), (y 2).cast (by decide)), (mem_JR _ _).mpr ⟨rfl, rfl⟩⟩
theorem JM_disjoint : ∀ s s' : Fin 2, s ≠ s' → Disjoint (JM s) (JM s') := by
  intro s s' hne; rw [Finset.disjoint_left]; intro y hy hy'
  exact hne (Fin.ext (((mem_tMid s y).mp hy).symm.trans ((mem_tMid s' y).mp hy')))
theorem JM_cover : (Finset.univ : Finset (Fin 2)).biUnion JM = Finset.univ := by
  ext y; simp only [Finset.mem_biUnion, Finset.mem_univ, true_and, iff_true]
  exact ⟨(y 0).cast (by decide), (mem_tMid _ _).mpr rfl⟩

end Sets

/-! ## The result put together -/

section Out
open Idealize.ShloMosaic.ValueIdx
variable {F : FTy → Type}
variable (pM : Fin 32 → S96x96x98.Idx → F .f32) (pT pB : Fin 32 → S96x1x98.Idx → F .f32)

/-- The result, given what every grid point writes. -/
def outF (y : S32x96x98x98.Idx) : F .f32 :=
  if h0 : (y 2).val = 0 then pT (y 0) (ix3 (y 1) (0 : Fin 1) (y 3))
  else if h97 : (y 2).val = 97 then pB (y 0) (ix3 (y 1) (0 : Fin 1) (y 3))
  else pM (y 0) (ix3 (y 1) (⟨(y 2).val - 1, by have : (y 2).val < 98 := (y 2).isLt; omega⟩ : Fin 96) (y 3))

theorem out_mid (u : Fin 32) : (oMid u).view.read (Elt F) (outF pM pT pB : S32x96x98x98.Idx → F .f32) = pM u := by
  funext x
  obtain ⟨a, b, d, rfl⟩ : ∃ a b d, x = ix3 a b d := ⟨x 0, x 1, x 2, by funext i; fin_cases i <;> rfl⟩
  have e : (oMid u).view.emb (ix3 a b d) = (ix4 u a (⟨b.val + 1, by have := b.isLt; omega⟩ : Fin 98) d : S32x96x98x98.Idx) := by
    show (Rect.unit (s := S32x96x98x98) (midOff u) S1x96x96x98.size (midOff_inb u)).emb (Shape.reshapeEquiv _ (ix3 a b d)) = _
    rw [reshapeEquiv_ix3_1abc]
    funext i; fin_cases i <;> refine Fin.ext ?_
    · show u.val + 1 * 0 = u.val; omega
    · show 0 + 1 * a.val = a.val; omega
    · show 1 + 1 * b.val = b.val + 1; omega
    · show 0 + 1 * d.val = d.val; omega
  show outF pM pT pB ((oMid u).view.emb (ix3 a b d)) = _
  rw [e]
  have hb := b.isLt
  unfold outF
  rw [dif_neg (show ¬ b.val + 1 = 0 by omega), dif_neg (show ¬ b.val + 1 = 97 by omega)]
  rfl
theorem out_top (u : Fin 32) : (oTop u).view.read (Elt F) (outF pM pT pB : S32x96x98x98.Idx → F .f32) = pT u := by
  funext x
  obtain ⟨a, b, d, rfl⟩ : ∃ a b d, x = ix3 a b d := ⟨x 0, x 1, x 2, by funext i; fin_cases i <;> rfl⟩
  obtain rfl : b = 0 := Subsingleton.elim _ _
  have e : (oTop u).view.emb (ix3 a 0 d) = (ix4 u a (0 : Fin 98) d : S32x96x98x98.Idx) := by
    show (Rect.unit (s := S32x96x98x98) (topOff u) S1x96x1x98.size (topOff_inb u)).emb (Shape.reshapeEquiv _ (ix3 a 0 d)) = _
    rw [reshapeEquiv_ix3_1abc]
    funext i; fin_cases i <;> refine Fin.ext ?_
    · show u.val + 1 * 0 = u.val; omega
    · show 0 + 1 * a.val = a.val; omega
    · rfl
    · show 0 + 1 * d.val = d.val; omega
  show outF pM pT pB ((oTop u).view.emb (ix3 a 0 d)) = _
  rw [e]
  rfl
theorem out_bot (u : Fin 32) : (oBot u).view.read (Elt F) (outF pM pT pB : S32x96x98x98.Idx → F .f32) = pB u := by
  funext x
  obtain ⟨a, b, d, rfl⟩ : ∃ a b d, x = ix3 a b d := ⟨x 0, x 1, x 2, by funext i; fin_cases i <;> rfl⟩
  obtain rfl : b = 0 := Subsingleton.elim _ _
  have e : (oBot u).view.emb (ix3 a 0 d) = (ix4 u a (97 : Fin 98) d : S32x96x98x98.Idx) := by
    show (Rect.unit (s := S32x96x98x98) (botOff u) S1x96x1x98.size (botOff_inb u)).emb (Shape.reshapeEquiv _ (ix3 a 0 d)) = _
    rw [reshapeEquiv_ix3_1abc]
    funext i; fin_cases i <;> refine Fin.ext ?_
    · show u.val + 1 * 0 = u.val; omega
    · show 0 + 1 * a.val = a.val; omega
    · rfl
    · show 0 + 1 * d.val = d.val; omega
  show outF pM pT pB ((oBot u).view.emb (ix3 a 0 d)) = _
  rw [e]
  rfl

end Out

/-! ## Splitting and joining the buffers -/

section Split
variable (c : Dev nD)
variable (pM : Fin 32 → S96x96x98.Idx → F .f32) (pT pB : Fin 32 → S96x1x98.Idx → F .f32)

theorem sep3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ
theorem sep2 (Φ : Fin 2 → sProp 𝕄) : bigSep Finset.univ Φ = iprop(Φ 0 ∗ Φ 1) :=
  bigSep_univ_eq_bigSepL [(0 : Fin 2), (1 : Fin 2)] (by decide) (by decide) Φ

/-- Contents that a view reads alike hold its elements alike. -/
theorem held_congr {sp} {s : Shape} (M : Memref sig .tc sp s .f32) {f g : Buf (Elt F) (M.view.loc (c : Thread nD τ))}
    (h : M.view.read (Elt F) f = M.view.read (Elt F) g) : held c M f = held c M g :=
  pointsTo_congr fun i hi => by
    obtain ⟨x, -, rfl⟩ := Finset.mem_map.mp hi
    exact View.eq_of_read_eq (congrFun h x)

/-- The result whole is every grid point's three pieces. -/
theorem out_pieces (f : Buf (Elt F) ((c : Thread nD τ).loc main_v61)) :
    (((c : Thread nD τ).loc main_v61) ↦{fullShare} f : sProp 𝕄)
      = bigSep Finset.univ fun u : Fin 32 => iprop(held c (oMid u) f ∗ held c (oTop u) f ∗ held c (oBot u) f) := by
  rw [Ring.pointsTo_blocks (ℓ := (c : Thread nD τ).loc main_v61) JO JO_disjoint JO_cover, BI.bigSep_univ_prod]
  refine bigSep_congr fun u _ => ?_
  rw [sep3]
  exact congrArg₂ (fun A B : sProp 𝕄 => iprop(A ∗ B)) (congrArg (fun S => (_ ↦[S]{fullShare} f : sProp 𝕄)) (oMid_set u).symm)
    (congrArg₂ (fun A B : sProp 𝕄 => iprop(A ∗ B)) (congrArg (fun S => (_ ↦[S]{fullShare} f : sProp 𝕄)) (oTop_set u).symm)
      (congrArg (fun S => (_ ↦[S]{fullShare} f : sProp 𝕄)) (oBot_set u).symm))
/-- At the launch: the pieces ahead. -/
theorem out_split (f : Buf (Elt F) ((c : Thread nD τ).loc main_v61)) :
    (((c : Thread nD τ).loc main_v61) ↦{fullShare} f : sProp 𝕄) ⊢ bigSep Finset.univ (aheadP (F := F) c) := by
  rw [out_pieces]
  refine BI.bigSep_mono fun u _ => ?_
  show iprop(held c (oMid u) f ∗ held c (oTop u) f ∗ held c (oBot u) f) ⊢ aheadP c u
  unfold aheadP
  iintro ⟨H0, H1, H2⟩
  isplitl [H0]; · iexists f; iexact H0
  isplitl [H1]; · iexists f; iexact H1
  iexists f; iexact H2
/-- At the end: the result, from the pieces behind. -/
theorem out_join : bigSep Finset.univ (behindP c pM pT pB)
      ⊢ (((c : Thread nD τ).loc main_v61) ↦{fullShare} (outF pM pT pB : S32x96x98x98.Idx → F .f32) : sProp 𝕄) := by
  rw [out_pieces]
  refine BI.bigSep_mono fun u _ => ?_
  show behindP c pM pT pB u ⊢ iprop(held c (oMid u) (outF pM pT pB) ∗ held c (oTop u) (outF pM pT pB) ∗ held c (oBot u) (outF pM pT pB))
  unfold behindP
  iintro ⟨⟨%f0, %h0, H0⟩, ⟨%f1, %h1, H1⟩, ⟨%f2, %h2, H2⟩⟩
  isplitl [H0]; · iapply (Entails.of_eq (held_congr c (oMid u) (h0.trans (out_mid pM pT pB u).symm))); iexact H0
  isplitl [H1]; · iapply (Entails.of_eq (held_congr c (oTop u) (h1.trans (out_top pM pT pB u).symm))); iexact H1
  iapply (Entails.of_eq (held_congr c (oBot u) (h2.trans (out_bot pM pT pB u).symm))); iexact H2

/-- The scratch of the rows in the middle is its two tiles, and back; -/
theorem mid_split : iprop(∃ f : Buf (Elt F) ((c : Thread nD τ).loc cc0_scratch0), ((c : Thread nD τ).loc cc0_scratch0) ↦{fullShare} f)
      ⊢ (iprop((∃ f, held c (tMid 0) f) ∗ ∃ f, held c (tMid 1) f) : sProp 𝕄) := by
  iintro ⟨%f, H⟩
  ihave H2 := (Entails.of_eq ((Ring.pointsTo_blocks (Ix := Unit) (Name := ℕ) (U := Pipeline.UD sig nD τ) (Lvl := ℕ) (q := fullShare) (ℓ := (c : Thread nD τ).loc cc0_scratch0) JM JM_disjoint JM_cover f).trans (sep2 _))) $$ H
  icases H2 with ⟨H0, H1⟩
  isplitl [H0]
  · iexists f; iapply (Entails.of_eq (congrArg (fun S => (_ ↦[S]{fullShare} f : sProp 𝕄)) (tMid_set 0).symm)); iexact H0
  · iexists f; iapply (Entails.of_eq (congrArg (fun S => (_ ↦[S]{fullShare} f : sProp 𝕄)) (tMid_set 1).symm)); iexact H1
theorem mid_join : iprop((∃ f, held c (tMid 0) f) ∗ ∃ f, held c (tMid 1) f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) JM JM_disjoint JM_cover f0)
  irw [sep2]
  isplitl [H0]
  · iexists f0; iapply (Entails.of_eq (congrArg (fun S => (_ ↦[S]{fullShare} f0 : sProp 𝕄)) (tMid_set 0))); iexact H0
  · iexists f1; iapply (Entails.of_eq (congrArg (fun S => (_ ↦[S]{fullShare} f1 : sProp 𝕄)) (tMid_set 1))); iexact H1
/-- the scratch of the first and the last row its four. -/
theorem row_split : iprop(∃ f : Buf (Elt F) ((c : Thread nD τ).loc cc0_scratch1), ((c : Thread nD τ).loc cc0_scratch1) ↦{fullShare} f)
      ⊢ (iprop(((∃ f, held c (tTop 0) f) ∗ ∃ f, held c (tBot 0) f) ∗ (∃ f, held c (tTop 1) f) ∗ ∃ f, held c (tBot 1) f) : sProp 𝕄) := by
  iintro ⟨%f, H⟩
  ihave H2 := (Entails.of_eq ((Ring.pointsTo_blocks (Ix := Unit) (Name := ℕ) (U := Pipeline.UD sig nD τ) (Lvl := ℕ) (q := fullShare) (ℓ := (c : Thread nD τ).loc cc0_scratch1) JR JR_disjoint JR_cover f).trans ((BI.bigSep_univ_prod _).trans ((sep2 _).trans (congrArg₂ (fun A B : sProp 𝕄 => iprop(A ∗ B)) (sep2 _) (sep2 _)))))) $$ H
  icases H2 with ⟨⟨H0, H1⟩, H2, H3⟩
  isplitl [H0 H1]
  · isplitl [H0]
    · iexists f; iapply (Entails.of_eq (congrArg (fun S => (_ ↦[S]{fullShare} f : sProp 𝕄)) (tTop_set 0).symm)); iexact H0
    · iexists f; iapply (Entails.of_eq (congrArg (fun S => (_ ↦[S]{fullShare} f : sProp 𝕄)) (tBot_set 0).symm)); iexact H1
  isplitl [H2]
  · iexists f; iapply (Entails.of_eq (congrArg (fun S => (_ ↦[S]{fullShare} f : sProp 𝕄)) (tTop_set 1).symm)); iexact H2
  · iexists f; iapply (Entails.of_eq (congrArg (fun S => (_ ↦[S]{fullShare} f : sProp 𝕄)) (tBot_set 1).symm)); iexact H3
theorem row_join : iprop(((∃ f, held c (tTop 0) f) ∗ ∃ f, held c (tBot 0) f) ∗ (∃ f, held c (tTop 1) f) ∗ ∃ f, held c (tBot 1) f)
      ⊢ (iprop(∃ f : Buf (Elt F) ((c : Thread nD τ).loc cc0_scratch1), ((c : Thread nD τ).loc cc0_scratch1) ↦{fullShare} f) : sProp 𝕄) := by
  iintro ⟨⟨⟨%f0, H0⟩, ⟨%f1, H1⟩⟩, ⟨%f2, H2⟩, ⟨%f3, H3⟩⟩
  iapply (Ring.pointsTo_blocks_join_exists (ℓ := (c : Thread nD τ).loc cc0_scratch1) JR JR_disjoint JR_cover f0)
  irw [BI.bigSep_univ_prod]
  irw [sep2]
  irw [sep2]
  irw [sep2]
  isplitl [H0 H1]
  · isplitl [H0]
    · iexists f0; iapply (Entails.of_eq (congrArg (fun S => (_ ↦[S]{fullShare} f0 : sProp 𝕄)) (tTop_set 0))); iexact H0
    · iexists f1; iapply (Entails.of_eq (congrArg (fun S => (_ ↦[S]{fullShare} f1 : sProp 𝕄)) (tBot_set 0))); iexact H1
  isplitl [H2]
  · iexists f2; iapply (Entails.of_eq (congrArg (fun S => (_ ↦[S]{fullShare} f2 : sProp 𝕄)) (tTop_set 1))); iexact H2
  · iexists f3; iapply (Entails.of_eq (congrArg (fun S => (_ ↦[S]{fullShare} f3 : sProp 𝕄)) (tBot_set 1))); iexact H3

end Split

end Cert.KernelIdeal.Pad

end
-- ==== Proof.FrameIdeal.lean ====
module

public import proofs.«01_k».proof.Proof.PiecesIdeal
public import Idealize.ShloMosaic.Lib.Ring.WriteBehind
public import Idealize.ShloMosaic.Lib.Pipeline.KitQuiescent

@[expose] public section

set_option maxRecDepth 16384

noncomputable section

namespace Cert.KernelIdeal.Pad

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)
open Idealize.ShloMosaic.Rounds
open Idealize.ShloMosaic.Pipeline (Dat BodyObligation)

variable {F : FTy → Type} [FloatOps F]

local notation "𝕄" => MT nD τ sig Unit (Elt F) ℕ (Pipeline.UD sig nD τ) ℕ
abbrev EP : Emb (UR sig nD τ) (MT nD τ sig Unit (Elt F) ℕ (Pipeline.UD sig nD τ) ℕ) := embL

/-! ## One grid point on the ring -/

/-- The region's invariant before point `p`: the ring of the copies behind. -/
def ring (c : Dev nD) (pM : Fin 32 → S96x96x98.Idx → F .f32) (pT pB : Fin 32 → S96x1x98.Idx → F .f32) (p : ℕ) : sProp 𝕄 :=
  Ring.AtBΦ (NB := 32) 2 (freeP c) (inflP c pM pT pB) (aheadP c) (behindP c pM pT pB) p

section Step
variable (c : Dev nD) (t : Fin grid0.N)
  (arg1 : Memref sig .tc .vmem S1x96x96x96 .f32) (harg1 : arg1.IsWhole)
  (arg2 : Memref sig .tc .vmem S1x96x98 .f32) (harg2 : arg2.IsWhole)
  (arg3 : Memref sig .tc .vmem S96x98 .f32) (harg3 : arg3.IsWhole)
variable (pM : Fin 32 → S96x96x98.Idx → F .f32) (pT pB : Fin 32 → S96x1x98.Idx → F .f32)
variable (g1 : Buf (Elt F) (arg1.view.loc (c : Thread nD τ))) (g2 : Buf (Elt F) (arg2.view.loc (c : Thread nD τ)))
  (g3 : Buf (Elt F) (arg3.view.loc (c : Thread nD τ)))

/-- Every grid point takes the ring one step on. -/
theorem step
    (eM : pM (bk 32 t.val) = PM (arg1.view.read (Elt F) g1) (arg2.view.read (Elt F) g2))
    (eT : pT (bk 32 t.val) = PT t (arg1.view.read (Elt F) g1) (arg3.view.read (Elt F) g3))
    (eB : pB (bk 32 t.val) = PB t (arg1.view.read (Elt F) g1) (arg3.view.read (Elt F) g3)) (W) (Q : PUnit → sProp 𝕄) :
    iprop((held c arg1 g1 ∗ held c arg2 g2 ∗ held c arg3 g3 ∗ ring c pM pT pB t.val ∗ owes (c : Thread nD τ) 0 W)
      ∗ (held c arg1 g1 -∗ held c arg2 g2 -∗ held c arg3 g3 -∗ ring c pM pT pB (t.val + 1)
        -∗ (∃ W', owes (c : Thread nD τ) 0 W') -∗ Q ⟨⟩))
      ⊢ wp frame (wpE (defs₀ (F := F)) 𝒱₀ (c : Thread nD τ) none) Set.univ (bodyG t arg1 harg1 arg2 harg2 arg3 harg3) Q := by
  have hN : t.val < 32 := lt_of_lt_of_eq t.isLt N_0
  unfold ring
  rw [Ring.AtBΦ_lt (NB := 32) _ _ _ _ _ t.val hN]
  by_cases hl : t.val + 1 = 32
  · rw [Ring.AtB22_here_last (NB := 32) _ _ _ _ t.val (by omega) hl, Ring.AtBΦ_end (NB := 32) _ _ _ _ _ (t.val + 1) hl,
      Ring.AtB22_drained (NB := 32) _ _ t.val (by omega) hl]
    iintro ⟨⟨H1, H2, H3, ⟨Hah, Hbs, Hi2, Hi1⟩, HW⟩, Hk⟩
    iapply (run_last c t arg1 harg1 arg2 harg2 arg3 harg3 pM pT pB g1 g2 g3 (by omega) hl eM eT eB W Q)
    isplitr [Hk Hbs]
    · isplitl [H1]; · iexact H1
      isplitl [H2]; · iexact H2
      isplitl [H3]; · iexact H3
      isplitl [Hi2]; · iexact Hi2
      isplitl [Hi1]; · iexact Hi1
      isplitl [Hah]; · iexact Hah
      iexact HW
    iintro H1; iintro H2; iintro H3; iintro HB0; iintro HB2; iintro HB1; iintro HF0; iintro HF1; iintro HW
    ispecialize Hk $$ H1
    ispecialize Hk $$ H2
    ispecialize Hk $$ H3
    ispecialize Hk $$ [HB0 HB2 HB1 HF0 HF1 Hbs]
    · isplitl [HB0 HB2 HB1 Hbs]
      · isplitl [HB0]; · iexact HB0
        isplitl [HB2]; · iexact HB2
        isplitl [HB1]; · iexact HB1
        iexact Hbs
      isplitl [HF0]; · iexact HF0
      iexact HF1
    iapply Hk; iexact HW
  by_cases h2 : 2 ≤ t.val
  · rw [Ring.AtB22_here (NB := 32) _ _ _ _ t.val h2 hN, Ring.AtBΦ_lt (NB := 32) _ _ _ _ _ (t.val + 1) (by omega),
      Ring.AtB22_next (NB := 32) _ _ _ _ t.val h2 hN]
    iintro ⟨⟨H1, H2, H3, ⟨⟨Hah, Has⟩, Hbs, Hi2, Hi1⟩, HW⟩, Hk⟩
    iapply (run_mid c t arg1 harg1 arg2 harg2 arg3 harg3 pM pT pB g1 g2 g3 h2 hl eM eT eB W Q)
    isplitr [Hk Hbs Has Hi1]
    · isplitl [H1]; · iexact H1
      isplitl [H2]; · iexact H2
      isplitl [H3]; · iexact H3
      isplitl [Hi2]; · iexact Hi2
      isplitl [Hah]; · iexact Hah
      iexact HW
    iintro H1; iintro H2; iintro H3; iintro HB2; iintro HI; iintro HW
    ispecialize Hk $$ H1
    ispecialize Hk $$ H2
    ispecialize Hk $$ H3
    ispecialize Hk $$ [HB2 HI Hbs Has Hi1]
    · isplitl [Has]; · iexact Has
      isplitl [HB2 Hbs]
      · isplitl [HB2]; · iexact HB2
        iexact Hbs
      isplitl [Hi1]; · iexact Hi1
      iexact HI
    iapply Hk; iexact HW
  by_cases h0 : t.val = 0
  · rw [Ring.AtB2_zero' (NB := 32) 2 _ _ _ _ t.val h0, Ring.AtBΦ_lt (NB := 32) _ _ _ _ _ (t.val + 1) (by omega), Ring.AtB22_next_zero' (NB := 32) _ _ _ _ t.val h0]
    iintro ⟨⟨H1, H2, H3, ⟨⟨Hah, Has⟩, Hfr, Hf1⟩, HW⟩, Hk⟩
    iapply (run_first c t arg1 harg1 arg2 harg2 arg3 harg3 pM pT pB g1 g2 g3 (by omega) (by omega) eM eT eB W Q)
    isplitr [Hk Has Hf1]
    · isplitl [H1]; · iexact H1
      isplitl [H2]; · iexact H2
      isplitl [H3]; · iexact H3
      isplitl [Hfr]; · iexact Hfr
      isplitl [Hah]; · iexact Hah
      iexact HW
    iintro H1; iintro H2; iintro H3; iintro HI; iintro HW
    ispecialize Hk $$ H1
    ispecialize Hk $$ H2
    ispecialize Hk $$ H3
    ispecialize Hk $$ [HI Has Hf1]
    · isplitl [Has]; · iexact Has
      isplitl [Hf1]; · iexact Hf1
      iexact HI
    iapply Hk; iexact HW
  have h1 : t.val = 1 := by omega
  rw [Ring.AtB22_one' (NB := 32) _ _ _ _ t.val h1 (by decide), Ring.AtBΦ_lt (NB := 32) _ _ _ _ _ (t.val + 1) (by omega), Ring.AtB22_next_one' (NB := 32) _ _ _ _ t.val h1]
  iintro ⟨⟨H1, H2, H3, ⟨⟨Hah, Has⟩, Hfr, Hi1⟩, HW⟩, Hk⟩
  iapply (run_first c t arg1 harg1 arg2 harg2 arg3 harg3 pM pT pB g1 g2 g3 (by omega) (by omega) eM eT eB W Q)
  isplitr [Hk Has Hi1]
  · isplitl [H1]; · iexact H1
    isplitl [H2]; · iexact H2
    isplitl [H3]; · iexact H3
    isplitl [Hfr]; · iexact Hfr
    isplitl [Hah]; · iexact Hah
    iexact HW
  iintro H1; iintro H2; iintro H3; iintro HI; iintro HW
  ispecialize Hk $$ H1
  ispecialize Hk $$ H2
  ispecialize Hk $$ H3
  ispecialize Hk $$ [HI Has Hi1]
  · isplitl [Has]; · iexact Has
    isplitl [Hi1]; · iexact Hi1
    iexact HI
  iapply Hk; iexact HW

end Step

/-! ## The proof data -/

section Run
variable (m : (ℓ : Loc nD τ sig) → Buf (Elt F) ℓ) (ρ : Dev nD → PrngReg)

/-- Grid point `u`. -/
abbrev pt (u : Fin 32) : Fin cfg0.N := Fin.cast N_0.symm u
/-- What each grid point writes, from what its windows hold. -/
def wM (c : Dev nD) (u : Fin 32) : S96x96x98.Idx → F .f32 := PM (iblk m c 0 (pt u)) (iblk m c 1 (pt u))
def wT (c : Dev nD) (u : Fin 32) : S96x1x98.Idx → F .f32 := PT (pt u) (iblk m c 0 (pt u)) (iblk m c 2 (pt u))
def wB (c : Dev nD) (u : Fin 32) : S96x1x98.Idx → F .f32 := PB (pt u) (iblk m c 0 (pt u)) (iblk m c 2 (pt u))
theorem pt_bk (t : Fin cfg0.N) : pt (bk 32 t.val) = t :=
  Fin.ext (Nat.mod_eq_of_lt (lt_of_lt_of_eq t.isLt N_0))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ p := ring c (wM m c) (wT m c) (wB m c) p.val
  q _ := fullShare
  owed _ := 0

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem before_w0 (c : Dev nD) (t : Fin cfg0.N) (d) : (dats m 0 c).before 0 t d = iblk m c 0 t :=
  ((dats m 0 c).before_in_eq_fetched 0 rfl (fun _ => rfl) (fun _ _ _ => rfl)
    (fun t => by rw [after_w0]; unfold Dat.blockOf iblk; dsimp only [dats]; try rfl) t d).trans
    (by unfold Dat.fetched Dat.blockOf iblk; dsimp only [dats]; try rfl)
theorem before_w1 (c : Dev nD) (t : Fin cfg0.N) (d) : (dats m 0 c).before 1 t d = iblk m c 1 t :=
  ((dats m 0 c).before_in_eq_fetched 1 rfl (fun _ => rfl) (fun _ _ _ => rfl)
    (fun t => by rw [after_w1]; unfold Dat.blockOf iblk; dsimp only [dats]; try rfl) t d).trans
    (by unfold Dat.fetched Dat.blockOf iblk; dsimp only [dats]; try rfl)
theorem before_w2 (c : Dev nD) (t : Fin cfg0.N) (d) : (dats m 0 c).before 2 t d = iblk m c 2 t :=
  ((dats m 0 c).before_in_eq_fetched 2 rfl (fun _ => rfl) (fun _ _ _ => rfl)
    (fun t => by rw [after_w2]; unfold Dat.blockOf iblk; dsimp only [dats]; try rfl) t d).trans
    (by unfold Dat.fetched Dat.blockOf iblk; dsimp only [dats]; try rfl)

/-- The body table's entry is the kernel on the staging memrefs of the point. -/
theorem defs_tc : (defs₀ (F := F)) .tc cfg0.body
    = fun a => cc0__body (grid0.coords a.1) (win0_0.stage (a.2 0)) (hstage0_0 ((a.2 0).cast nbuf0_0)) (win0_1.stage (a.2 1)) (hstage0_1 ((a.2 1).cast nbuf0_1))
        (win0_2.stage (a.2 2)) (hstage0_2 ((a.2 2).cast nbuf0_2)) oM (Memref.isWhole_whole _) midM (Memref.isWhole_whole _) rowM (Memref.isWhole_whole _) cc0_scratch2 cc0_scratch3 := rfl
theorem prog_eq (t : Fin cfg0.N) : (defs₀ (F := F)) .tc cfg0.body (cfg0.bodyArgs t (cfg0.slots t))
    = bodyG t (win0_0.stage (cfg0.slots t 0)) (hstage0_0 ((cfg0.slots t 0).cast nbuf0_0)) (win0_1.stage (cfg0.slots t 1)) (hstage0_1 ((cfg0.slots t 1).cast nbuf0_1))
        (win0_2.stage (cfg0.slots t 2)) (hstage0_2 ((cfg0.slots t 2).cast nbuf0_2)) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, after_w0, after_w1, after_w2]
  rw [show (dats m 0 c).Φ t.castSucc = ring c (wM m c) (wT m c) (wB m c) t.val from rfl,
    show (dats m 0 c).Φ t.succ = ring c (wM m c) (wT m c) (wB m c) (t.val + 1) from rfl]
  unfold Dat.owesAt Pipeline.owesWithin
  rw [show (dats m 0 c).owed t.castSucc = 0 from rfl, show (dats m 0 c).owed t.succ = 0 from rfl]
  unfold owns
  iintro ⟨HR, ⟨%W, -, HW⟩, ⟨%d0, %g0, %hg0, H0⟩, ⟨%d1, %g1, %hg1, H1⟩, ⟨%d2, %g2, %hg2, H2⟩⟩
  sl_rw [prog_eq t]
  iapply (step c t (win0_0.stage (cfg0.slots t 0)) (hstage0_0 ((cfg0.slots t 0).cast nbuf0_0)) (win0_1.stage (cfg0.slots t 1)) (hstage0_1 ((cfg0.slots t 1).cast nbuf0_1))
        (win0_2.stage (cfg0.slots t 2)) (hstage0_2 ((cfg0.slots t 2).cast nbuf0_2)) (wM m c) (wT m c) (wB m c) g0 g1 g2
    (by unfold wM; rw [pt_bk]; exact congrArg₂ PM hg0.symm hg1.symm)
    (by unfold wT; rw [pt_bk]; exact congrArg₂ (PT t) hg0.symm hg2.symm)
    (by unfold wB; rw [pt_bk]; exact congrArg₂ (PB t) hg0.symm hg2.symm) W)
  isplitl [HR HW H0 H1 H2]
  · isplitl [H0]; · iexact H0
    isplitl [H1]; · iexact H1
    isplitl [H2]; · iexact H2
    isplitl [HR]; · iexact HR
    iexact HW
  · iintro H0; iintro H1; iintro H2; iintro HR; iintro ⟨%W', HW⟩
    isplitl [HR]; · iexact HR
    isplitl [HW]
    · iexists W'; isplitr; · ipureintro; exact fun _ _ => Or.inl trivial
      iexact HW
    isplitl [H0]
    · iexists g0; isplitr; · ipureintro; exact hg0
      iexact H0
    isplitl [H1]
    · iexists g1; isplitr; · ipureintro; exact hg1
      iexact H1
    iexists g2; isplitr; · ipureintro; exact hg2
    iexact H2

/-! ## The run -/

/-- The kernel's own cells: the two slots' three each. -/
abbrev osem : Fin 6 → SemLoc sig
  | 0 => .dma (cMid 0).sem | 1 => .dma (cMid 1).sem | 2 => .dma (cTop 0).sem
  | 3 => .dma (cBot 0).sem | 4 => .dma (cTop 1).sem | 5 => .dma (cBot 1).sem
theorem ownSemFacts : Pipeline.OwnSemFacts spec0 osem := by decide
theorem ownSems0_eq (c : Dev nD) : (Pipeline.ownSems0 (Ix := Unit) (Name := ℕ) (U := Pipeline.UD sig nD τ) (Lvl := ℕ) (Val := Elt F) (τ := τ) osem c : sProp 𝕄)
    = iprop(cellP c (cMid 0) ∗ cellP c (cMid 1) ∗ cellP c (cTop 0) ∗ cellP c (cBot 0) ∗ cellP c (cTop 1) ∗ cellP c (cBot 1)) :=
  Pipeline.ownSems0_eq_of_list c osem [0, 1, 2, 3, 4, 5] (by decide) (by decide)

/-- The result the kernel addresses itself is no window's array. -/
theorem out_rest : ({main_v61} : Finset (Ref sig .tc)) ⊆ Pipeline.restRefs sig spec0 := by decide

def u₀ : Pipeline.UD sig nD τ := (initOf (Pipeline.cells cfgs cellOf_inj) (Pipeline.launchToks cfgs cellOf_inj), 1)
/-- The result's contents at the end. -/
def res (c : Dev nD) : S32x96x98x98.Idx → F .f32 := outF (wM m c) (wT m c) (wB m c)
def QY (c : Dev nD) (s : MemSt nD τ sig (Elt F)) : Prop := s.mem ((c : Thread nD τ).loc main_v61) = res m c

set_option maxHeartbeats 800000 in
/-- The host operations before the region. -/
theorem hmainD : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

set_option maxHeartbeats 3200000 in
set_option backward.isDefEq.respectTransparency.types false in
/-- From any memory with zero counters the program terminates without a fault, its result at `res`, its argument as
    it was, every counter at zero. -/
theorem run_main : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_v61) = res m c) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainD m)
    (hA := fun _ _ => rfl)
    (X := fun c => iprop(bigSep Finset.univ (aheadP (F := F) c) ∗ Pipeline.ownSems0 osem c))
    (Y := fun c => iprop(((c : Thread nD τ).loc main_v61) ↦{fullShare} (res m c : Buf (Elt F) ((c : Thread nD τ).loc main_v61)))) (Z := fun _ => iprop(emp))
    (hX := fun c => by
      rw [Pipeline.unscopedRest_sdiff spec0 {main_v61} out_rest c (V m c), bigSep_singleton]
      iintro ⟨⟨H0, -⟩, HS, -, -, -⟩; imodintro
      isplitl [H0 HS]
      · isplitl [H0]; · iapply (out_split c (V m c main_v61)); iexact H0
        iexact HS
      iempintro)
    (hin := fun c => by
      rw [scopedRest0_eq, show (dats m 0 c).Φ 0 = ring c (wM m c) (wT m c) (wB m c) 0 from rfl]
      unfold ring
      rw [Ring.AtBΦ_lt (NB := 32) _ _ _ _ _ 0 (by decide), Ring.AtB_zero]
      unfold Ring.AtB₀
      rw [sep2, ownSems0_eq]
      unfold freeP
      iintro ⟨⟨H0, C0, C1, C2, C3, C4, C5⟩, HM, HR⟩
      ihave HM2 := (mid_split c) $$ HM
      ihave HR2 := (row_split c) $$ HR
      icases HM2 with ⟨HM0, HM1⟩
      icases HR2 with ⟨⟨HT0, HB0⟩, HT1, HB1⟩
      isplitl [H0]; · iexact H0
      isplitl [HM0 HT0 HB0 C0 C2 C3]
      · isplitl [HM0]; · iexact HM0
        isplitl [HT0]; · iexact HT0
        isplitl [HB0]; · iexact HB0
        isplitl [C0]; · iexact C0
        isplitl [C2]; · iexact C2
        iexact C3
      isplitl [HM1]; · iexact HM1
      isplitl [HT1]; · iexact HT1
      isplitl [HB1]; · iexact HB1
      isplitl [C1]; · iexact C1
      isplitl [C4]; · iexact C4
      iexact C5)
    (hout := fun c => by
      rw [scopedRest0_eq, show (dats m 0 c).Φ (Fin.last cfg0.N) = ring c (wM m c) (wT m c) (wB m c) cfg0.N from rfl, ownSems0_eq]
      unfold ring
      rw [Ring.AtBΦ_end (NB := 32) _ _ _ _ _ _ N_0]
      unfold Ring.AtBEnd
      rw [sep2]
      unfold freeP
      iintro ⟨H0, ⟨HM0, HT0, HB0, C0, C2, C3⟩, HM1, HT1, HB1, C1, C4, C5⟩
      isplitl [H0]; · iapply (out_join c (wM m c) (wT m c) (wB m c)); iexact H0
      isplitl [C0 C1 C2 C3 C4 C5]
      · isplitl [C0]; · iexact C0
        isplitl [C1]; · iexact C1
        isplitl [C2]; · iexact C2
        isplitl [C3]; · iexact C3
        isplitl [C4]; · iexact C4
        iexact C5
      isplitl [HM0 HM1]
      · iapply (mid_join c)
        isplitl [HM0]; · iexact HM0
        iexact HM1
      iapply (row_join c)
      isplitl [HT0 HB0]
      · isplitl [HT0]; · iexact HT0
        iexact HB0
      isplitl [HT1]; · iexact HT1
      iexact HB1)
    (QY := QY m)
    (hY := fun c s' => by
      iintro ⟨H0, -, HSI⟩
      icombine HSI H0 gives %h0
      imodintro
      isplitr; · ipureintro; exact Buf.eq_of_forall_mem_univ h0
      iexact HSI)
    (hQ := fun s hh hz => ⟨fun c => ⟨((hh c).1 0).trans (((dats m 0 c).arrAt_in 0 rfl _).trans (V_main_arg0 m c)), (hh c).2⟩, hz⟩)

end Run

end Cert.KernelIdeal.Pad

end
-- ==== Proof.Spec.lean ====
/-
  The padded batch, index by index, over the extended reals: what both programs compute.
-/
module

public import Idealize.ShloMosaic.Lib.IdealHost
public import Idealize.ShloMosaic.Lib.Pointwise

@[expose] public section

noncomputable section

namespace Cert.Pad

open Idealize.ShloMosaic
open scoped BigOperators

/-- The batch of patches, -/
abbrev Patches := (⟨4, ![32, 96, 96, 96]⟩ : Shape).Idx → EReal
/-- and its padded form. -/
abbrev PaddedIdx := (⟨4, ![32, 96, 98, 98]⟩ : Shape).Idx

/-- Row `i` of channel `c` of patch `n`, zero past its end. -/
def row (x : Patches) (n : Fin 32) (c i : Fin 96) (w : ℕ) : EReal :=
  if h : w < 96 then x (ix4 n c i ⟨w, h⟩) else 0

theorem row_past (x : Patches) (n : Fin 32) (c i : Fin 96) (w : ℕ) (h : 96 ≤ w) : row x n c i w = 0 :=
  dif_neg (by omega)
theorem row_at (x : Patches) (n : Fin 32) (c i : Fin 96) (w : Fin 96) : row x n c i w.val = x (ix4 n c i w) :=
  dif_pos w.isLt

/-- The number that every mean divides by. -/
def den : EReal := ((3 : ℝ) : EReal)
/-- One third. -/
def third : EReal := Ideal.div 1 den

/-- The mean of three neighbours from `a` on. -/
def avg (r : ℕ → EReal) (a : ℕ) : EReal := Ideal.div (r a + r (a + 1) + r (a + 2)) den

/-- A row above or below a patch: the corners are the patch's, the rest are means along the row. -/
def edgeRow (r : ℕ → EReal) (j : ℕ) : EReal :=
  if j = 0 then r 0 else if j = 97 then r 95 else avg r (j - 1)
/-- A row of a patch between its two means. -/
def midRow (r : ℕ → EReal) (j : ℕ) : EReal :=
  if j = 0 then avg r 0 else if j = 97 then avg r 93 else r (j - 1)

/-- The left or the right edge of the whole picture; -/
abbrev offCol (n j : ℕ) : Prop := (j = 0 ∧ n % 4 = 0) ∨ (j = 97 ∧ n % 4 = 3)
/-- its upper or its lower edge. -/
abbrev offRow (n i : ℕ) : Prop := (i = 0 ∧ n % 16 < 4) ∨ (i = 97 ∧ 12 ≤ n % 16)

/-- The padded patch before the picture's edges are cleared. -/
def whole (x : Patches) (n : Fin 32) (c : Fin 96) (i j : ℕ) : EReal :=
  if i = 0 then edgeRow (row x n c 0) j
  else if i = 97 then edgeRow (row x n c 95) j
  else if h : i - 1 < 96 then midRow (row x n c ⟨i - 1, h⟩) j else 0
/-- The padded batch. -/
def padded (x : Patches) (n : Fin 32) (c : Fin 96) (i j : Fin 98) : EReal :=
  if offCol n.val j.val ∨ offRow n.val i.val then 0 else whole x n c i.val j.val

/-! ## The means as sums of products -/

theorem den_bits : Ideal.ofBits .f32 0x40400000#32 = den := by
  unfold den
  simp [Ideal.ofBits, Ideal.ieee, -EReal.coe_mul]; norm_num

theorem den_ne : den ≠ 0 := by
  unfold den; norm_num
theorem third_eq : third = (((1 : ℝ) / 3 : ℝ) : EReal) := by
  unfold third Ideal.div
  rw [if_neg den_ne, one_mul]
  unfold den
  rw [← EReal.coe_inv]; norm_num
theorem third_nonneg : 0 ≤ third := by
  rw [third_eq]; exact EReal.coe_nonneg.mpr (by norm_num)
theorem third_ne_top : third ≠ ⊤ := by
  rw [third_eq]; exact EReal.coe_ne_top _

/-- The mean is the sum of its terms' thirds. -/
theorem avg_eq (r : ℕ → EReal) (a : ℕ) : avg r a = r a * third + r (a + 1) * third + r (a + 2) * third := by
  unfold avg
  rw [← Ideal.mul_one_div den_ne]
  show _ * third = _
  rw [EReal.right_distrib_of_nonneg_of_ne_top third_nonneg third_ne_top, EReal.right_distrib_of_nonneg_of_ne_top third_nonneg third_ne_top]

/-- A sum against one 1 is the entry there; -/
theorem sum_one (r : ℕ → EReal) (a : ℕ) (ha : a < 96) (p : ℕ → Prop) [DecidablePred p] (hp : ∀ w, w < 96 → (p w ↔ w = a)) :
    ∑ w : Fin 96, r w.val * (if p w.val then 1 else 0) = r a := by
  rw [Finset.sum_eq_single (⟨a, ha⟩ : Fin 96)]
  · rw [if_pos ((hp a ha).mpr rfl), mul_one]
  · intro b _ hb
    rw [if_neg fun h => hb (Fin.ext ((hp _ b.isLt).mp h)), mul_zero]
  · intro h; exact (h (Finset.mem_univ _)).elim

/-- a sum against three neighbouring thirds is the mean there, the row being zero past its end. -/
theorem sum_three (r : ℕ → EReal) (hr : ∀ w, 96 ≤ w → r w = 0) (a : ℕ) (ha : a < 96) (p : ℕ → Prop) [DecidablePred p]
    (hp : ∀ w, w < 96 → (p w ↔ a ≤ w ∧ w ≤ a + 2)) :
    ∑ w : Fin 96, r w.val * (if p w.val then third else 0) = avg r a := by
  rw [avg_eq]
  have h1 : ∑ w : Fin 96, r w.val * (if p w.val then third else 0)
      = ∑ w ∈ Finset.range 96, (if a ≤ w ∧ w ≤ a + 2 then r w * third else 0) := by
    rw [← Fin.sum_univ_eq_sum_range (fun w => if a ≤ w ∧ w ≤ a + 2 then r w * third else 0) 96]
    refine Finset.sum_congr rfl fun w _ => ?_
    by_cases h : p w.val
    · rw [if_pos h, if_pos ((hp _ w.isLt).mp h)]
    · rw [if_neg h, if_neg fun h' => h ((hp _ w.isLt).mpr h'), mul_zero]
  have h2 : ∑ w ∈ Finset.range 96, (if a ≤ w ∧ w ≤ a + 2 then r w * third else 0)
      = ∑ w ∈ Finset.range 98, (if a ≤ w ∧ w ≤ a + 2 then r w * third else 0) := by
    rw [Finset.sum_range_succ _ 97, Finset.sum_range_succ _ 96, hr 96 (by omega), hr 97 (by omega)]
    simp only [zero_mul, ite_self, add_zero]
  rw [h1, h2, ← Finset.sum_filter]
  have h3 : (Finset.range 98).filter (fun w => a ≤ w ∧ w ≤ a + 2) = {a, a + 1, a + 2} := by
    ext w
    simp only [Finset.mem_filter, Finset.mem_range, Finset.mem_insert, Finset.mem_singleton]
    omega
  rw [h3, Finset.sum_insert (by simp), Finset.sum_insert (by simp), Finset.sum_singleton, add_assoc]

/-! ## The two tables -/

/-- The entry of matrix `k` of the rows in the middle; -/
def midE (k w j : ℕ) : EReal :=
  if (k = 1 ∧ j = 0) ∨ (k = 2 ∧ j = 97) then 0
  else if (w < 3 ∧ j = 0) ∨ (93 ≤ w ∧ j = 97) then third
  else if j = w + 1 then 1 else 0
/-- the entry of the matrix of the first and the last row. -/
def rowE (w j : ℕ) : EReal :=
  if (w = 0 ∧ j = 0) ∨ (w = 95 ∧ j = 97) then 1
  else if 1 ≤ j ∧ j ≤ 96 ∧ j ≤ w + 1 ∧ w ≤ j + 1 then third else 0

/-- A row times a matrix of the middle: the row between its two means, the one or the other of them cleared. -/
theorem mid_sum (r : ℕ → EReal) (hr : ∀ w, 96 ≤ w → r w = 0) (k j : ℕ) (hj : j < 98) :
    ∑ w : Fin 96, r w.val * midE k w.val j = if (k = 1 ∧ j = 0) ∨ (k = 2 ∧ j = 97) then 0 else midRow r j := by
  unfold midE midRow
  by_cases hk : (k = 1 ∧ j = 0) ∨ (k = 2 ∧ j = 97)
  · simp only [if_pos hk, mul_zero, Finset.sum_const_zero]
  simp only [if_neg hk]
  by_cases h0 : j = 0
  · subst h0
    simp only [if_true]
    rw [← sum_three r hr 0 (by omega) (fun w => w < 3) (fun w hw => by omega)]
    refine Finset.sum_congr rfl fun w _ => congrArg _ ?_
    by_cases hw : w.val < 3
    · rw [if_pos (Or.inl ⟨hw, trivial⟩), if_pos hw]
    · rw [if_neg (by omega), if_neg (by omega), if_neg hw]
  by_cases h97 : j = 97
  · subst h97
    rw [if_neg h0, if_pos rfl, ← sum_three r hr 93 (by omega) (fun w => 93 ≤ w) (fun w hw => by omega)]
    refine Finset.sum_congr rfl fun w _ => congrArg _ ?_
    by_cases hw : 93 ≤ w.val
    · rw [if_pos (Or.inr ⟨hw, rfl⟩), if_pos hw]
    · have := w.isLt
      rw [if_neg (by omega), if_neg (by omega), if_neg hw]
  · rw [if_neg h0, if_neg h97, ← sum_one r (j - 1) (by omega) (fun w => j = w + 1) (fun w hw => by omega)]
    refine Finset.sum_congr rfl fun w _ => congrArg _ ?_
    rw [if_neg (by omega)]

/-- A row times the other matrix: its corners and its means. -/
theorem row_sum (r : ℕ → EReal) (hr : ∀ w, 96 ≤ w → r w = 0) (j : ℕ) (hj : j < 98) :
    ∑ w : Fin 96, r w.val * rowE w.val j = edgeRow r j := by
  unfold rowE edgeRow
  by_cases h0 : j = 0
  · subst h0
    rw [if_pos rfl, ← sum_one r 0 (by omega) (fun w => w = 0) (fun w hw => by omega)]
    refine Finset.sum_congr rfl fun w _ => congrArg _ ?_
    by_cases hw : w.val = 0
    · rw [if_pos (by omega), if_pos hw]
    · rw [if_neg (by omega), if_neg (by omega), if_neg hw]
  by_cases h97 : j = 97
  · subst h97
    rw [if_neg h0, if_pos rfl, ← sum_one r 95 (by omega) (fun w => w = 95) (fun w hw => by omega)]
    refine Finset.sum_congr rfl fun w _ => congrArg _ ?_
    by_cases hw : w.val = 95
    · rw [if_pos (by omega), if_pos hw]
    · rw [if_neg (by omega), if_neg (by omega), if_neg hw]
  · rw [if_neg h0, if_neg h97, ← sum_three r hr (j - 1) (by omega) (fun w => 1 ≤ j ∧ j ≤ 96 ∧ j ≤ w + 1 ∧ w ≤ j + 1) (fun w hw => by omega)]
    refine Finset.sum_congr rfl fun w _ => congrArg _ ?_
    rw [if_neg (by omega)]

end Cert.Pad

end
-- ==== Proof.ValueIdeal.lean ====
/-
  What the kernel leaves in its result, index by index: the tables, the blocks, the products.
-/
module

public import proofs.«01_k».proof.Proof.FrameIdeal
public import proofs.«01_k».proof.Proof.Spec
public import Idealize.ShloMosaic.Lib.StableHlo.ReadAt
public import Idealize.ShloMosaic.Lib.Pointwise
public import Idealize.ShloMosaic.Lib.Tactic.WordOmega
public import Idealize.ShloMosaic.Lib.Pipeline.ValueKit.Point

@[expose] public section

noncomputable section

namespace Cert.KernelIdeal.Pad

open Idealize.ShloMosaic Idealize.ShloMosaic.TcCoe
open Cert.KernelIdeal Cert.KernelIdeal.Gen

/-! ## The tables -/

/-- A selection on a bit that says `p`. -/
theorem select_iff {α : Type} (b : BitVec 1) (p : Prop) [Decidable p] (h : b = 1#1 ↔ p) (x y : α) :
    Scalar.select b x y = if p then x else y := by
  by_cases hp : p
  · rw [if_pos hp, h.mpr hp]; rfl
  · rw [if_neg hp, WordCmp.select_of_eq_zero]
    exact (show ∀ b : BitVec 1, b ≠ 1#1 → b = 0#1 by decide) b fun e => hp (h.mp e)

set_option maxHeartbeats 3200000 in
/-- The matrix of the first and the last row, entry by entry; -/
theorem tableR (m : (ℓ : Loc nD τ sig) → Buf (Elt Ideal) ℓ) (c : Dev nD) (j : S96x98.Idx) :
    (V m c main_v60 : S96x98.Idx → EReal) j = Cert.Pad.rowE (j 0).val (j 1).val := by
  unfold V
  after_reads_at
  rw [Cert.Pad.den_bits]
  unfold Cert.Pad.rowE
  have h0 : (j 0).val < 96 := (j 0).isLt
  have h1 : (j 1).val < 98 := (j 1).isLt
  generalize (j 0).val = w at *
  generalize (j 1).val = k at *
  refine (select_iff _ ((w = 0 ∧ k = 0) ∨ (w = 95 ∧ k = 97)) ?_ _ _).trans (congrArg _ ?_)
  · clear m c j; word_omega
  · refine select_iff _ _ ?_ _ _
    clear m c j
    by_cases hk : k = 0
    · subst hk; word_omega
    · have : IntOp.subi (BitVec.ofNat 32 k) 1#32 = BitVec.ofNat 32 (k - 1) := by
        apply BitVec.eq_of_toNat_eq
        simp [IntOp.subi, BitVec.toNat_sub]; omega
      rw [this]; word_omega

set_option maxHeartbeats 3200000 in
/-- the three matrices of the middle. -/
theorem tableM (m : (ℓ : Loc nD τ sig) → Buf (Elt Ideal) ℓ) (c : Dev nD) (j : S3x96x98.Idx) :
    (V m c main_v31 : S3x96x98.Idx → EReal) j = Cert.Pad.midE (j 0).val (j 1).val (j 2).val := by
  unfold V
  after_reads_at
  rw [Cert.Pad.den_bits]
  unfold Cert.Pad.midE
  have h0 : (j 0).val < 3 := (j 0).isLt
  have h1 : (j 1).val < 96 := (j 1).isLt
  have h2 : (j 2).val < 98 := (j 2).isLt
  generalize (j 0).val = a at *
  generalize (j 1).val = w at *
  generalize (j 2).val = k at *
  refine (select_iff _ ((a = 1 ∧ k = 0) ∨ (a = 2 ∧ k = 97)) ?_ _ _).trans (congrArg _ ?_)
  · clear m c j; word_omega
  refine (select_iff _ ((w < 3 ∧ k = 0) ∨ (93 ≤ w ∧ k = 97)) ?_ _ _).trans (congrArg _ ?_)
  · clear m c j; word_omega
  · refine select_iff _ _ ?_ _ _
    clear m c j; word_omega

/-! ## The blocks -/

variable (m : (ℓ : Loc nD τ sig) → Buf (Elt Ideal) ℓ) (c : Dev nD)

/-- The matrix that patch `n` is multiplied by. -/
def kOf (n : ℕ) : ℕ := if n % 4 = 0 then 1 else if n % 4 = 3 then 2 else 0
theorem kOf_lt (n : ℕ) : kOf n < 3 := by unfold kOf; split_ifs <;> omega

theorem kOf_iff (n i j : ℕ) (h0 : ¬ i = 0) (h97 : ¬ i = 97) :
    ((kOf n = 1 ∧ j = 0) ∨ (kOf n = 2 ∧ j = 97)) ↔ (Cert.Pad.offCol n j ∨ Cert.Pad.offRow n i) := by
  unfold Cert.Pad.offCol Cert.Pad.offRow kOf
  constructor
  · intro h
    split_ifs at h with h4 h3
    · rcases h with ⟨_, hj⟩ | ⟨hk, _⟩
      · exact .inl (.inl ⟨hj, h4⟩)
      · exact absurd hk (by decide)
    · rcases h with ⟨hk, _⟩ | ⟨_, hj⟩
      · exact absurd hk (by decide)
      · exact .inl (.inr ⟨hj, h3⟩)
    · rcases h with ⟨hk, _⟩ | ⟨hk, _⟩
      · exact absurd hk (by decide)
      · exact absurd hk (by decide)
  · rintro ((⟨hj, h4⟩ | ⟨hj, h3⟩) | (⟨hi, _⟩ | ⟨hi, _⟩))
    · exact .inl ⟨if_pos h4, hj⟩
    · exact .inr ⟨by rw [if_neg (by omega), if_pos h3], hj⟩
    · exact (h0 hi).elim
    · exact (h97 hi).elim

theorem idx0 : ∀ t : Fin cfg0.N, win0_0.index t = ![t.val, 0, 0, 0] := by decide
theorem idx1 : ∀ t : Fin cfg0.N, win0_1.index t = ![kOf t.val, 0, 0] := by decide
theorem idx2 : ∀ t : Fin cfg0.N, win0_2.index t = ![0, 0] := by decide

/-- Patch `u`'s block of the batch, of the three matrices, of the matrix of the rows. -/
def blkX (u : Fin 32) : S1x96x96x96.Idx → EReal := iblk m c 0 (pt u)
def blkM (u : Fin 32) : S1x96x98.Idx → EReal := iblk m c 1 (pt u)
def blkR (u : Fin 32) : S96x98.Idx → EReal := iblk m c 2 (pt u)

set_option maxHeartbeats 1600000 in
theorem blk0 (u : Fin 32) (y : S1x96x96x96.Idx) :
    blkX m c u y = (m ((c : Thread nD τ).loc main_arg0) : S32x96x96x96.Idx → EReal) (ix4 u (y 1) (y 2) (y 3)) := by
  unfold blkX
  blk_ext [iblk, V_main_arg0, idx0 (pt u)]
  rfl
theorem blk1 (u : Fin 32) (y : S1x96x98.Idx) :
    blkM m c u y = (V m c main_v31 : S3x96x98.Idx → EReal) (ix3 ⟨kOf u.val, kOf_lt _⟩ (y 1) (y 2)) := by
  unfold blkM
  blk_ext [iblk, idx1 (pt u)]
  rfl
theorem blk2 (u : Fin 32) (y : S96x98.Idx) :
    blkR m c u y = (V m c main_v60 : S96x98.Idx → EReal) y := by
  unfold blkR
  blk_ext [iblk, idx2 (pt u)]

/-! ## The products -/

theorem top_bit : ∀ t : Fin grid0.N, Scalar.cmpi .eq (ptRow t) 0#32 = BitVec.ofBool (decide (t.val % 16 < 4)) := by decide
theorem bot_bit : ∀ t : Fin grid0.N, Scalar.cmpi .eq (ptRow t) 3#32 = BitVec.ofBool (decide (12 ≤ t.val % 16)) := by decide
theorem left_bit : ∀ t : Fin grid0.N, Scalar.cmpi .eq (ptCol t) 0#32 = BitVec.ofBool (decide (t.val % 4 = 0)) := by decide
theorem right_bit : ∀ t : Fin grid0.N, Scalar.cmpi .eq (ptCol t) 3#32 = BitVec.ofBool (decide (t.val % 4 = 3)) := by decide

theorem pm_at (X : S1x96x96x96.Idx → EReal) (A : S1x96x98.Idx → EReal) (y : S96x96x98.Idx) :
    (PM (F := Ideal) X A : S96x96x98.Idx → EReal) y = (∑ w : Fin 96, X (ix4 0 (y 0) (y 1) w) * A (ix3 0 w (y 2)) : EReal) := by
  unfold PM
  pointwise [k0_pay2, k0_pay1]

theorem pt_at (t : Fin grid0.N) (X : S1x96x96x96.Idx → EReal) (A : S96x98.Idx → EReal) (y : S96x1x98.Idx) :
    (PT (F := Ideal) t X A : S96x1x98.Idx → EReal) y
      = (if Cert.Pad.offCol t.val (y 2).val ∨ t.val % 16 < 4 then 0 else ∑ w : Fin 96, X (ix4 0 (y 0) 0 w) * A (ix2 w (y 2)) : EReal) := by
  unfold PT
  rw [top_bit, left_bit, right_bit]
  pointwise [k0_pay6, k0_pay3, k0_pay4, k0_pay5, k0_pay1]
  have hj : (y 2).val < 98 := (y 2).isLt
  refine select_iff _ _ ?_ _ _
  unfold Cert.Pad.offCol
  generalize (y 2).val = k at *
  generalize t.val = n at *
  clear X A
  word_omega

theorem pb_at (t : Fin grid0.N) (X : S1x96x96x96.Idx → EReal) (A : S96x98.Idx → EReal) (y : S96x1x98.Idx) :
    (PB (F := Ideal) t X A : S96x1x98.Idx → EReal) y
      = (if Cert.Pad.offCol t.val (y 2).val ∨ 12 ≤ t.val % 16 then 0 else ∑ w : Fin 96, X (ix4 0 (y 0) 95 w) * A (ix2 w (y 2)) : EReal) := by
  unfold PB
  rw [bot_bit, left_bit, right_bit]
  pointwise [k0_pay7, k0_pay3, k0_pay4, k0_pay5, k0_pay1]
  have hj : (y 2).val < 98 := (y 2).isLt
  refine select_iff _ _ ?_ _ _
  unfold Cert.Pad.offCol
  generalize (y 2).val = k at *
  generalize t.val = n at *
  clear X A
  word_omega

/-! ## The result -/

section
variable (pM : Fin 32 → S96x96x98.Idx → EReal) (pT pB : Fin 32 → S96x1x98.Idx → EReal) (n : Fin 32) (d : Fin 96) (i j : Fin 98)
theorem outF_top (h : i.val = 0) : outF (F := Ideal) pM pT pB (ix4 n d i j) = pT n (ix3 d 0 j) := dif_pos h
theorem outF_bot (h : i.val = 97) : outF (F := Ideal) pM pT pB (ix4 n d i j) = pB n (ix3 d 0 j) :=
  (dif_neg (show ¬ i.val = 0 by omega)).trans (dif_pos h)
theorem outF_mid (h0 : ¬ i.val = 0) (h97 : ¬ i.val = 97) :
    outF (F := Ideal) pM pT pB (ix4 n d i j) = pM n (ix3 d ⟨i.val - 1, by have := i.isLt; omega⟩ j) := (dif_neg h0).trans (dif_neg h97)
end

open Cert.Pad in
theorem res_at (n : Fin 32) (d : Fin 96) (i j : Fin 98) (y : S32x96x98x98.Idx) (hn : y 0 = n) (hd : y 1 = d) (hi : y 2 = i) (hj : y 3 = j) :
    (res (F := Ideal) m c : S32x96x98x98.Idx → EReal) y = padded (m ((c : Thread nD τ).loc main_arg0)) n d i j := by
  have h2 : i.val < 98 := i.isLt
  have h3 : j.val < 98 := j.isLt
  obtain rfl : y = ix4 n d i j := by
    funext a; fin_cases a <;> assumption
  show outF (wM m c) (wT m c) (wB m c) (ix4 n d i j) = _
  unfold padded whole
  by_cases e0 : i.val = 0
  · rw [outF_top _ _ _ _ _ _ _ e0]
    refine (pt_at _ (blkX m c n) (blkR m c n) _).trans ?_
    have hs : ∀ w : Fin 96, blkX m c n (ix4 0 d 0 w) * blkR m c n (ix2 w j)
        = row (m ((c : Thread nD τ).loc main_arg0)) n d 0 w.val * rowE w.val j.val := fun w => by
      rw [blk0, blk2, tableR, row_at]; rfl
    have hsum := (Finset.sum_congr rfl fun w _ => hs w).trans (row_sum _ (row_past (m ((c : Thread nD τ).loc main_arg0)) n d 0) j.val h3)
    rw [if_pos e0]
    by_cases ho : offCol n.val j.val ∨ offRow n.val i.val
    · rw [if_pos ho]
      exact if_pos (by rcases ho with ho | ho; exact .inl ho; right; show n.val % 16 < 4; omega)
    · rw [if_neg ho]
      refine (if_neg fun h => ho ?_).trans hsum
      rcases h with h | h
      · exact .inl h
      · exact .inr (.inl ⟨e0, h⟩)
  by_cases e97 : i.val = 97
  · rw [outF_bot _ _ _ _ _ _ _ e97]
    refine (pb_at _ (blkX m c n) (blkR m c n) _).trans ?_
    have hs : ∀ w : Fin 96, blkX m c n (ix4 0 d 95 w) * blkR m c n (ix2 w j)
        = row (m ((c : Thread nD τ).loc main_arg0)) n d 95 w.val * rowE w.val j.val := fun w => by
      rw [blk0, blk2, tableR, row_at]; rfl
    have hsum := (Finset.sum_congr rfl fun w _ => hs w).trans (row_sum _ (row_past (m ((c : Thread nD τ).loc main_arg0)) n d 95) j.val h3)
    rw [if_neg e0, if_pos e97]
    by_cases ho : offCol n.val j.val ∨ offRow n.val i.val
    · rw [if_pos ho]
      exact if_pos (by rcases ho with ho | ho; exact .inl ho; right; show 12 ≤ n.val % 16; omega)
    · rw [if_neg ho]
      refine (if_neg fun h => ho ?_).trans hsum
      rcases h with h | h
      · exact .inl h
      · exact .inr (.inr ⟨e97, h⟩)
  · rw [outF_mid _ _ _ _ _ _ _ e0 e97, if_neg e0, if_neg e97]
    have hi : i.val - 1 < 96 := by omega
    rw [dif_pos hi]
    refine (pm_at (blkX m c n) (blkM m c n) _).trans ?_
    have hs : ∀ w : Fin 96, blkX m c n (ix4 0 d ⟨i.val - 1, hi⟩ w) * blkM m c n (ix3 0 w j)
        = row (m ((c : Thread nD τ).loc main_arg0)) n d ⟨i.val - 1, hi⟩ w.val * midE (kOf n.val) w.val j.val := fun w => by
      rw [blk0, blk1, tableM, row_at]; rfl
    have hsum := (Finset.sum_congr rfl fun w _ => hs w).trans (mid_sum _ (row_past (m ((c : Thread nD τ).loc main_arg0)) n d ⟨i.val - 1, hi⟩) (kOf n.val) j.val h3)
    refine hsum.trans ?_
    have hk : ((kOf n.val = 1 ∧ j.val = 0) ∨ (kOf n.val = 2 ∧ j.val = 97)) ↔ (offCol n.val j.val ∨ offRow n.val i.val) :=
      kOf_iff _ _ _ e0 e97
    by_cases ho : offCol n.val j.val ∨ offRow n.val i.val
    · rw [if_pos ho, if_pos (hk.mpr ho)]
    · rw [if_neg ho, if_neg (fun h => ho (hk.mp h))]

open Cert.Pad in
/-- The kernel's result is the padded batch. -/
theorem res_eq : (res (F := Ideal) m c : S32x96x98x98.Idx → EReal)
    = fun y => padded (m ((c : Thread nD τ).loc main_arg0)) (y 0) (y 1) (y 2) (y 3) := by
  funext y
  exact res_at m c (y 0) (y 1) (y 2) (y 3) y rfl rfl rfl rfl

end Cert.KernelIdeal.Pad

end
-- ==== Proof.RefRun.lean ====
module

public import proofs.«01_k».proof.Proof.Gen.ReferenceIdeal
public import Idealize.ShloMosaic.Lib.StableHlo.RunRead
public import Idealize.ShloMosaic.Lib.StableHlo.RunHlo
public import Idealize.ShloMosaic.Lib.Pipeline.Regions
public import Idealize.ShloMosaic.Lib.Quiescent

@[expose] public section

set_option maxRecDepth 16384

noncomputable section

namespace Cert.ReferenceIdeal.Pad

open Cert.ReferenceIdeal Cert.ReferenceIdeal.Gen
open Idealize.ShloMosaic Idealize.ShloMosaic.TcCoe Idealize.ShloMosaic.StableHlo Idealize.SL.Sem

variable {F : FTy → Type} [FloatOps F]

/-! ## The reference's operations, in order, a called function a stretch of its own -/

abbrev line0 : List (HloOp τ sig (Elt F)) :=
  [ StableHlo.nullary main_v0 (iotaInDim S4 32 0),
    StableHlo.reshape main_v0 main_v1 (rfl : (.i32 : EltTy) = .i32) shapeCasts_S4_S1x4,
    StableHlo.unary main_v1 main_v2 (broadcastInDim S2x4 ![0, 1] bcast_S1x4_S2x4_0_1 : (⟨S1x4, .i32⟩ : BufTy).Contents (Elt F) → (⟨S2x4, .i32⟩ : BufTy).Contents (Elt F)),
    StableHlo.reshape main_v2 main_v3 (rfl : (.i32 : EltTy) = .i32) shapeCasts_S2x4_S8,
    StableHlo.nullary main_v4 (iotaInDim S2 32 0),
    StableHlo.nullary main_c (constantI S_ 32 16#32),
    StableHlo.unary main_c main_v5 (broadcastInDim S2 ![] bcast_S_S2 : (⟨S_, .i32⟩ : BufTy).Contents (Elt F) → (⟨S2, .i32⟩ : BufTy).Contents (Elt F)),
    StableHlo.binary main_v5 main_v4 main_v6 (muli : (⟨S2, .i32⟩ : BufTy).Contents (Elt F) → (⟨S2, .i32⟩ : BufTy).Contents (Elt F) → (⟨S2, .i32⟩ : BufTy).Contents (Elt F)),
    StableHlo.nullary main_c_0 (constantI S_ 32 0#32),
    StableHlo.unary main_c_0 main_v7 (broadcastInDim S2 ![] bcast_S_S2 : (⟨S_, .i32⟩ : BufTy).Contents (Elt F) → (⟨S2, .i32⟩ : BufTy).Contents (Elt F)),
    StableHlo.binary main_v7 main_v6 main_v8 (addi : (⟨S2, .i32⟩ : BufTy).Contents (Elt F) → (⟨S2, .i32⟩ : BufTy).Contents (Elt F) → (⟨S2, .i32⟩ : BufTy).Contents (Elt F)),
    StableHlo.unary main_v8 main_v9 (broadcastInDim S2x4 ![0] bcast_S2_S2x4_0 : (⟨S2, .i32⟩ : BufTy).Contents (Elt F) → (⟨S2x4, .i32⟩ : BufTy).Contents (Elt F)),
    StableHlo.reshape main_v9 main_v10 (rfl : (.i32 : EltTy) = .i32) shapeCasts_S2x4_S8,
    StableHlo.binary main_v3 main_v10 main_v11 (addi : (⟨S8, .i32⟩ : BufTy).Contents (Elt F) → (⟨S8, .i32⟩ : BufTy).Contents (Elt F) → (⟨S8, .i32⟩ : BufTy).Contents (Elt F)),
    StableHlo.nullary main_v12 (iotaInDim S4 32 0),
    StableHlo.nullary main_c_1 (constantI S_ 32 12#32),
    StableHlo.unary main_c_1 main_v13 (broadcastInDim S4 ![] bcast_S_S4 : (⟨S_, .i32⟩ : BufTy).Contents (Elt F) → (⟨S4, .i32⟩ : BufTy).Contents (Elt F)),
    StableHlo.binary main_v13 main_v12 main_v14 (addi : (⟨S4, .i32⟩ : BufTy).Contents (Elt F) → (⟨S4, .i32⟩ : BufTy).Contents (Elt F) → (⟨S4, .i32⟩ : BufTy).Contents (Elt F)),
    StableHlo.reshape main_v14 main_v15 (rfl : (.i32 : EltTy) = .i32) shapeCasts_S4_S1x4,
    StableHlo.unary main_v15 main_v16 (broadcastInDim S2x4 ![0, 1] bcast_S1x4_S2x4_0_1 : (⟨S1x4, .i32⟩ : BufTy).Contents (Elt F) → (⟨S2x4, .i32⟩ : BufTy).Contents (Elt F)),
    StableHlo.reshape main_v16 main_v17 (rfl : (.i32 : EltTy) = .i32) shapeCasts_S2x4_S8,
    StableHlo.nullary main_v18 (iotaInDim S2 32 0),
    StableHlo.nullary main_c_2 (constantI S_ 32 16#32),
    StableHlo.unary main_c_2 main_v19 (broadcastInDim S2 ![] bcast_S_S2 : (⟨S_, .i32⟩ : BufTy).Contents (Elt F) → (⟨S2, .i32⟩ : BufTy).Contents (Elt F)),
    StableHlo.binary main_v19 main_v18 main_v20 (muli : (⟨S2, .i32⟩ : BufTy).Contents (Elt F) → (⟨S2, .i32⟩ : BufTy).Contents (Elt F) → (⟨S2, .i32⟩ : BufTy).Contents (Elt F)),
    StableHlo.nullary main_c_3 (constantI S_ 32 0#32),
    StableHlo.unary main_c_3 main_v21 (broadcastInDim S2 ![] bcast_S_S2 : (⟨S_, .i32⟩ : BufTy).Contents (Elt F) → (⟨S2, .i32⟩ : BufTy).Contents (Elt F)),
    StableHlo.binary main_v21 main_v20 main_v22 (addi : (⟨S2, .i32⟩ : BufTy).Contents (Elt F) → (⟨S2, .i32⟩ : BufTy).Contents (Elt F) → (⟨S2, .i32⟩ : BufTy).Contents (Elt F)),
    StableHlo.unary main_v22 main_v23 (broadcastInDim S2x4 ![0] bcast_S2_S2x4_0 : (⟨S2, .i32⟩ : BufTy).Contents (Elt F) → (⟨S2x4, .i32⟩ : BufTy).Contents (Elt F)),
    StableHlo.reshape main_v23 main_v24 (rfl : (.i32 : EltTy) = .i32) shapeCasts_S2x4_S8,
    StableHlo.binary main_v17 main_v24 main_v25 (addi : (⟨S8, .i32⟩ : BufTy).Contents (Elt F) → (⟨S8, .i32⟩ : BufTy).Contents (Elt F) → (⟨S8, .i32⟩ : BufTy).Contents (Elt F)),
    StableHlo.nullary main_v26 (iotaInDim S8 32 0),
    StableHlo.nullary main_c_4 (constantI S_ 32 4#32),
    StableHlo.unary main_c_4 main_v27 (broadcastInDim S8 ![] bcast_S_S8 : (⟨S_, .i32⟩ : BufTy).Contents (Elt F) → (⟨S8, .i32⟩ : BufTy).Contents (Elt F)),
    StableHlo.binary main_v27 main_v26 main_v28 (muli : (⟨S8, .i32⟩ : BufTy).Contents (Elt F) → (⟨S8, .i32⟩ : BufTy).Contents (Elt F) → (⟨S8, .i32⟩ : BufTy).Contents (Elt F)),
    StableHlo.nullary main_c_5 (constantI S_ 32 0#32),
    StableHlo.unary main_c_5 main_v29 (broadcastInDim S8 ![] bcast_S_S8 : (⟨S_, .i32⟩ : BufTy).Contents (Elt F) → (⟨S8, .i32⟩ : BufTy).Contents (Elt F)),
    StableHlo.binary main_v29 main_v28 main_v30 (addi : (⟨S8, .i32⟩ : BufTy).Contents (Elt F) → (⟨S8, .i32⟩ : BufTy).Contents (Elt F) → (⟨S8, .i32⟩ : BufTy).Contents (Elt F)),
    StableHlo.nullary main_v31 (iotaInDim S8 32 0),
    StableHlo.nullary main_c_6 (constantI S_ 32 4#32),
    StableHlo.unary main_c_6 main_v32 (broadcastInDim S8 ![] bcast_S_S8 : (⟨S_, .i32⟩ : BufTy).Contents (Elt F) → (⟨S8, .i32⟩ : BufTy).Contents (Elt F)),
    StableHlo.binary main_v32 main_v31 main_v33 (muli : (⟨S8, .i32⟩ : BufTy).Contents (Elt F) → (⟨S8, .i32⟩ : BufTy).Contents (Elt F) → (⟨S8, .i32⟩ : BufTy).Contents (Elt F)),
    StableHlo.nullary main_c_7 (constantI S_ 32 3#32),
    StableHlo.unary main_c_7 main_v34 (broadcastInDim S8 ![] bcast_S_S8 : (⟨S_, .i32⟩ : BufTy).Contents (Elt F) → (⟨S8, .i32⟩ : BufTy).Contents (Elt F)),
    StableHlo.binary main_v34 main_v33 main_v35 (addi : (⟨S8, .i32⟩ : BufTy).Contents (Elt F) → (⟨S8, .i32⟩ : BufTy).Contents (Elt F) → (⟨S8, .i32⟩ : BufTy).Contents (Elt F)),
    StableHlo.unary main_arg0 main_v36 ((extractStridedSlice S32x96x1x96 ![0, 0, 0, 0] · slices_S32x96x96x96_S32x96x1x96_0_0_0_0) : (⟨S32x96x96x96, .f32⟩ : BufTy).Contents (Elt F) → (⟨S32x96x1x96, .f32⟩ : BufTy).Contents (Elt F)),
    StableHlo.nullary main_cst (constant S_ .f32 0x00000000#32) ]
theorem line0_sub : (line0 : List (HloOp τ sig (Elt F))).Forall fun op => op.bufs ⊆ tcRefs τ sig :=
  ⟨nullary_bufs_sub .., reshape_bufs_sub .., unary_bufs_sub .., reshape_bufs_sub .., nullary_bufs_sub .., nullary_bufs_sub .., unary_bufs_sub .., binary_bufs_sub .., nullary_bufs_sub .., unary_bufs_sub .., binary_bufs_sub .., unary_bufs_sub .., reshape_bufs_sub .., binary_bufs_sub .., nullary_bufs_sub .., nullary_bufs_sub .., unary_bufs_sub .., binary_bufs_sub .., reshape_bufs_sub .., unary_bufs_sub .., reshape_bufs_sub .., nullary_bufs_sub .., nullary_bufs_sub .., unary_bufs_sub .., binary_bufs_sub .., nullary_bufs_sub .., unary_bufs_sub .., binary_bufs_sub .., unary_bufs_sub .., reshape_bufs_sub .., binary_bufs_sub .., nullary_bufs_sub .., nullary_bufs_sub .., unary_bufs_sub .., binary_bufs_sub .., nullary_bufs_sub .., unary_bufs_sub .., binary_bufs_sub .., nullary_bufs_sub .., nullary_bufs_sub .., unary_bufs_sub .., binary_bufs_sub .., nullary_bufs_sub .., unary_bufs_sub .., binary_bufs_sub .., unary_bufs_sub .., nullary_bufs_sub ..⟩
theorem line0_fresh : (line0 : List (HloOp τ sig (Elt F))).Forall fun op => op.fresh = ∅ := by
  simp only [List.Forall]; repeat' constructor
abbrev line1 : List (HloOp τ sig (Elt F)) :=
  [ StableHlo.TRef.unary (.of main_cst : StableHlo.TRef sig ⟨S_, .f32⟩) (.of main_call0_v0 : StableHlo.TRef sig ⟨S_, .f32⟩) id,
    StableHlo.TRef.binary (.of main_v36 : StableHlo.TRef sig ⟨S32x96x1x96, .f32⟩) (.of main_call0_v0 : StableHlo.TRef sig ⟨S_, .f32⟩) (.of main_v37 : StableHlo.TRef sig ⟨S32x96x1x98, .f32⟩) (fun x v => pad S32x96x1x98 ![0, 0, 0, 0] ![0, 0, 0, 2] ![0, 0, 0, 0] x v pads_S32x96x1x96_S32x96x1x98_000_000_000_020 h_S_) ]
theorem line1_sub : (line1 : List (HloOp τ sig (Elt F))).Forall fun op => op.bufs ⊆ tcRefs τ sig :=
  ⟨unary_bufs_sub .., binary_bufs_sub ..⟩
theorem line1_fresh : (line1 : List (HloOp τ sig (Elt F))).Forall fun op => op.fresh = ∅ := by
  simp only [List.Forall]; repeat' constructor
abbrev line2 : List (HloOp τ sig (Elt F)) :=
  [ StableHlo.unary main_v37 main_v38 ((extractStridedSlice S32x96x1x96 ![0, 0, 0, 0] · slices_S32x96x1x98_S32x96x1x96_0_0_0_0) : (⟨S32x96x1x98, .f32⟩ : BufTy).Contents (Elt F) → (⟨S32x96x1x96, .f32⟩ : BufTy).Contents (Elt F)),
    StableHlo.unary main_v37 main_v39 ((extractStridedSlice S32x96x1x96 ![0, 0, 0, 1] · slices_S32x96x1x98_S32x96x1x96_0_0_0_1) : (⟨S32x96x1x98, .f32⟩ : BufTy).Contents (Elt F) → (⟨S32x96x1x96, .f32⟩ : BufTy).Contents (Elt F)),
    StableHlo.binary main_v38 main_v39 main_v40 (addf : (⟨S32x96x1x96, .f32⟩ : BufTy).Contents (Elt F) → (⟨S32x96x1x96, .f32⟩ : BufTy).Contents (Elt F) → (⟨S32x96x1x96, .f32⟩ : BufTy).Contents (Elt F)),
    StableHlo.unary main_v37 main_v41 ((extractStridedSlice S32x96x1x96 ![0, 0, 0, 2] · slices_S32x96x1x98_S32x96x1x96_0_0_0_2) : (⟨S32x96x1x98, .f32⟩ : BufTy).Contents (Elt F) → (⟨S32x96x1x96, .f32⟩ : BufTy).Contents (Elt F)),
    StableHlo.binary main_v40 main_v41 main_v42 (addf : (⟨S32x96x1x96, .f32⟩ : BufTy).Contents (Elt F) → (⟨S32x96x1x96, .f32⟩ : BufTy).Contents (Elt F) → (⟨S32x96x1x96, .f32⟩ : BufTy).Contents (Elt F)),
    StableHlo.nullary main_cst_8 (constant S_ .f32 0x40400000#32),
    StableHlo.unary main_cst_8 main_v43 (broadcastInDim S32x96x1x96 ![] bcast_S_S32x96x1x96 : (⟨S_, .f32⟩ : BufTy).Contents (Elt F) → (⟨S32x96x1x96, .f32⟩ : BufTy).Contents (Elt F)),
    StableHlo.binary main_v42 main_v43 main_v44 (Host.divf : (⟨S32x96x1x96, .f32⟩ : BufTy).Contents (Elt F) → (⟨S32x96x1x96, .f32⟩ : BufTy).Contents (Elt F) → (⟨S32x96x1x96, .f32⟩ : BufTy).Contents (Elt F)),
    StableHlo.unary main_arg0 main_v45 ((extractStridedSlice S32x96x1x96 ![0, 0, 95, 0] · slices_S32x96x96x96_S32x96x1x96_0_0_95_0) : (⟨S32x96x96x96, .f32⟩ : BufTy).Contents (Elt F) → (⟨S32x96x1x96, .f32⟩ : BufTy).Contents (Elt F)),
    StableHlo.nullary main_cst_9 (constant S_ .f32 0x00000000#32) ]
theorem line2_sub : (line2 : List (HloOp τ sig (Elt F))).Forall fun op => op.bufs ⊆ tcRefs τ sig :=
  ⟨unary_bufs_sub .., unary_bufs_sub .., binary_bufs_sub .., unary_bufs_sub .., binary_bufs_sub .., nullary_bufs_sub .., unary_bufs_sub .., binary_bufs_sub .., unary_bufs_sub .., nullary_bufs_sub ..⟩
theorem line2_fresh : (line2 : List (HloOp τ sig (Elt F))).Forall fun op => op.fresh = ∅ := by
  simp only [List.Forall]; repeat' constructor
abbrev line3 : List (HloOp τ sig (Elt F)) :=
  [ StableHlo.TRef.unary (.of main_cst_9 : StableHlo.TRef sig ⟨S_, .f32⟩) (.of main_call1_v0 : StableHlo.TRef sig ⟨S_, .f32⟩) id,
    StableHlo.TRef.binary (.of main_v45 : StableHlo.TRef sig ⟨S32x96x1x96, .f32⟩) (.of main_call1_v0 : StableHlo.TRef sig ⟨S_, .f32⟩) (.of main_v46 : StableHlo.TRef sig ⟨S32x96x1x98, .f32⟩) (fun x v => pad S32x96x1x98 ![0, 0, 0, 0] ![0, 0, 0, 2] ![0, 0, 0, 0] x v pads_S32x96x1x96_S32x96x1x98_000_000_000_020 h_S_) ]
theorem line3_sub : (line3 : List (HloOp τ sig (Elt F))).Forall fun op => op.bufs ⊆ tcRefs τ sig :=
  ⟨unary_bufs_sub .., binary_bufs_sub ..⟩
theorem line3_fresh : (line3 : List (HloOp τ sig (Elt F))).Forall fun op => op.fresh = ∅ := by
  simp only [List.Forall]; repeat' constructor
abbrev line4 : List (HloOp τ sig (Elt F)) :=
  [ StableHlo.unary main_v46 main_v47 ((extractStridedSlice S32x96x1x96 ![0, 0, 0, 0] · slices_S32x96x1x98_S32x96x1x96_0_0_0_0) : (⟨S32x96x1x98, .f32⟩ : BufTy).Contents (Elt F) → (⟨S32x96x1x96, .f32⟩ : BufTy).Contents (Elt F)) ]
theorem line4_sub : (line4 : List (HloOp τ sig (Elt F))).Forall fun op => op.bufs ⊆ tcRefs τ sig :=
  unary_bufs_sub ..
theorem line4_fresh : (line4 : List (HloOp τ sig (Elt F))).Forall fun op => op.fresh = ∅ := by
  simp only [List.Forall]; repeat' constructor
abbrev line5 : List (HloOp τ sig (Elt F)) :=
  [ StableHlo.unary main_v46 main_v48 ((extractStridedSlice S32x96x1x96 ![0, 0, 0, 1] · slices_S32x96x1x98_S32x96x1x96_0_0_0_1) : (⟨S32x96x1x98, .f32⟩ : BufTy).Contents (Elt F) → (⟨S32x96x1x96, .f32⟩ : BufTy).Contents (Elt F)),
    StableHlo.binary main_v47 main_v48 main_v49 (addf : (⟨S32x96x1x96, .f32⟩ : BufTy).Contents (Elt F) → (⟨S32x96x1x96, .f32⟩ : BufTy).Contents (Elt F) → (⟨S32x96x1x96, .f32⟩ : BufTy).Contents (Elt F)),
    StableHlo.unary main_v46 main_v50 ((extractStridedSlice S32x96x1x96 ![0, 0, 0, 2] · slices_S32x96x1x98_S32x96x1x96_0_0_0_2) : (⟨S32x96x1x98, .f32⟩ : BufTy).Contents (Elt F) → (⟨S32x96x1x96, .f32⟩ : BufTy).Contents (Elt F)),
    StableHlo.binary main_v49 main_v50 main_v51 (addf : (⟨S32x96x1x96, .f32⟩ : BufTy).Contents (Elt F) → (⟨S32x96x1x96, .f32⟩ : BufTy).Contents (Elt F) → (⟨S32x96x1x96, .f32⟩ : BufTy).Contents (Elt F)),
    StableHlo.nullary main_cst_10 (constant S_ .f32 0x40400000#32),
    StableHlo.unary main_cst_10 main_v52 (broadcastInDim S32x96x1x96 ![] bcast_S_S32x96x1x96 : (⟨S_, .f32⟩ : BufTy).Contents (Elt F) → (⟨S32x96x1x96, .f32⟩ : BufTy).Contents (Elt F)),
    StableHlo.binary main_v51 main_v52 main_v53 (Host.divf : (⟨S32x96x1x96, .f32⟩ : BufTy).Contents (Elt F) → (⟨S32x96x1x96, .f32⟩ : BufTy).Contents (Elt F) → (⟨S32x96x1x96, .f32⟩ : BufTy).Contents (Elt F)),
    StableHlo.unary main_arg0 main_v54 ((extractStridedSlice S32x96x96x3 ![0, 0, 0, 0] · slices_S32x96x96x96_S32x96x96x3_0_0_0_0) : (⟨S32x96x96x96, .f32⟩ : BufTy).Contents (Elt F) → (⟨S32x96x96x3, .f32⟩ : BufTy).Contents (Elt F)),
    StableHlo.nullary main_cst_11 (constant S_ .f32 0x00000000#32),
    StableHlo.binary main_v54 main_cst_11 main_v55 ((fun x v => Host.reduceAdd x v reducesTo_S32x96x96x3_S32x96x96_d3 h_S_) : (⟨S32x96x96x3, .f32⟩ : BufTy).Contents (Elt F) → (⟨S_, .f32⟩ : BufTy).Contents (Elt F) → (⟨S32x96x96, .f32⟩ : BufTy).Contents (Elt F)),
    StableHlo.unary main_v55 main_v56 (broadcastInDim S32x96x96x1 ![0, 1, 2] bcast_S32x96x96_S32x96x96x1_0_1_2 : (⟨S32x96x96, .f32⟩ : BufTy).Contents (Elt F) → (⟨S32x96x96x1, .f32⟩ : BufTy).Contents (Elt F)),
    StableHlo.nullary main_cst_12 (constant S_ .f32 0x40400000#32),
    StableHlo.unary main_cst_12 main_v57 (broadcastInDim S32x96x96x1 ![] bcast_S_S32x96x96x1 : (⟨S_, .f32⟩ : BufTy).Contents (Elt F) → (⟨S32x96x96x1, .f32⟩ : BufTy).Contents (Elt F)),
    StableHlo.binary main_v56 main_v57 main_v58 (Host.divf : (⟨S32x96x96x1, .f32⟩ : BufTy).Contents (Elt F) → (⟨S32x96x96x1, .f32⟩ : BufTy).Contents (Elt F) → (⟨S32x96x96x1, .f32⟩ : BufTy).Contents (Elt F)),
    StableHlo.unary main_arg0 main_v59 ((extractStridedSlice S32x96x96x3 ![0, 0, 0, 93] · slices_S32x96x96x96_S32x96x96x3_0_0_0_93) : (⟨S32x96x96x96, .f32⟩ : BufTy).Contents (Elt F) → (⟨S32x96x96x3, .f32⟩ : BufTy).Contents (Elt F)),
    StableHlo.nullary main_cst_13 (constant S_ .f32 0x00000000#32),
    StableHlo.binary main_v59 main_cst_13 main_v60 ((fun x v => Host.reduceAdd x v reducesTo_S32x96x96x3_S32x96x96_d3 h_S_) : (⟨S32x96x96x3, .f32⟩ : BufTy).Contents (Elt F) → (⟨S_, .f32⟩ : BufTy).Contents (Elt F) → (⟨S32x96x96, .f32⟩ : BufTy).Contents (Elt F)),
    StableHlo.unary main_v60 main_v61 (broadcastInDim S32x96x96x1 ![0, 1, 2] bcast_S32x96x96_S32x96x96x1_0_1_2 : (⟨S32x96x96, .f32⟩ : BufTy).Contents (Elt F) → (⟨S32x96x96x1, .f32⟩ : BufTy).Contents (Elt F)),
    StableHlo.nullary main_cst_14 (constant S_ .f32 0x40400000#32),
    StableHlo.unary main_cst_14 main_v62 (broadcastInDim S32x96x96x1 ![] bcast_S_S32x96x96x1 : (⟨S_, .f32⟩ : BufTy).Contents (Elt F) → (⟨S32x96x96x1, .f32⟩ : BufTy).Contents (Elt F)),
    StableHlo.binary main_v61 main_v62 main_v63 (Host.divf : (⟨S32x96x96x1, .f32⟩ : BufTy).Contents (Elt F) → (⟨S32x96x96x1, .f32⟩ : BufTy).Contents (Elt F) → (⟨S32x96x96x1, .f32⟩ : BufTy).Contents (Elt F)),
    StableHlo.nullary main_c_15 (constantI S_ 32 0#32) ]
theorem line5_sub : (line5 : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., unary_bufs_sub .., nullary_bufs_sub .., binary_bufs_sub .., unary_bufs_sub .., nullary_bufs_sub .., unary_bufs_sub .., binary_bufs_sub .., nullary_bufs_sub ..⟩
theorem line5_fresh : (line5 : List (HloOp τ sig (Elt F))).Forall fun op => op.fresh = ∅ := by
  simp only [List.Forall]; repeat' constructor
abbrev line6 : List (HloOp τ sig (Elt F)) :=
  [ StableHlo.TRef.unary (.of main_arg0 : StableHlo.TRef sig ⟨S32x96x96x96, .f32⟩) (.of main_call2_v0 : StableHlo.TRef sig ⟨S1x96x96x96, .f32⟩) (extractStridedSlice S1x96x96x96 ![0, 0, 0, 0] · slices_S32x96x96x96_S1x96x96x96_0_0_0_0),
    StableHlo.TRef.unary (.of main_call2_v0 : StableHlo.TRef sig ⟨S1x96x96x96, .f32⟩) (.of main_call2_v1 : StableHlo.TRef sig ⟨S1x0x96x96x96, .f32⟩) (broadcastInDim S1x0x96x96x96 ![0, 2, 3, 4] bcast_S1x96x96x96_S1x0x96x96x96_0_2_3_4),
    StableHlo.TRef.reshape (.of main_call2_v1 : StableHlo.TRef sig ⟨S1x0x96x96x96, .f32⟩) (.of main_call2_v2 : StableHlo.TRef sig ⟨S0x96x96x96, .f32⟩) (rfl : (.f32 : EltTy) = .f32) shapeCasts_S1x0x96x96x96_S0x96x96x96,
    StableHlo.TRef.unary (.of main_arg0 : StableHlo.TRef sig ⟨S32x96x96x96, .f32⟩) (.of main_call2_v3 : StableHlo.TRef sig ⟨S1x96x96x96, .f32⟩) (extractStridedSlice S1x96x96x96 ![31, 0, 0, 0] · slices_S32x96x96x96_S1x96x96x96_31_0_0_0),
    StableHlo.TRef.unary (.of main_call2_v3 : StableHlo.TRef sig ⟨S1x96x96x96, .f32⟩) (.of main_call2_v4 : StableHlo.TRef sig ⟨S1x0x96x96x96, .f32⟩) (broadcastInDim S1x0x96x96x96 ![0, 2, 3, 4] bcast_S1x96x96x96_S1x0x96x96x96_0_2_3_4),
    StableHlo.TRef.reshape (.of main_call2_v4 : StableHlo.TRef sig ⟨S1x0x96x96x96, .f32⟩) (.of main_call2_v5 : StableHlo.TRef sig ⟨S0x96x96x96, .f32⟩) (rfl : (.f32 : EltTy) = .f32) shapeCasts_S1x0x96x96x96_S0x96x96x96,
    StableHlo.TRef.nary (Ts := ![⟨S0x96x96x96, .f32⟩, ⟨S32x96x96x96, .f32⟩, ⟨S0x96x96x96, .f32⟩]) (Fin.cons (.of main_call2_v2 : StableHlo.TRef sig ⟨S0x96x96x96, .f32⟩) (Fin.cons (.of main_arg0 : StableHlo.TRef sig ⟨S32x96x96x96, .f32⟩) (Fin.cons (.of main_call2_v5 : StableHlo.TRef sig ⟨S0x96x96x96, .f32⟩) (fun k => k.elim0)))) (.of main_call2_v6 : StableHlo.TRef sig ⟨S32x96x96x96, .f32⟩) (fun u => (concatenate S32x96x96x96 0 [⟨S0x96x96x96, (u 0 : (⟨S0x96x96x96, .f32⟩ : BufTy).Contents (Elt F))⟩, ⟨S32x96x96x96, (u 1 : (⟨S32x96x96x96, .f32⟩ : BufTy).Contents (Elt F))⟩, ⟨S0x96x96x96, (u 2 : (⟨S0x96x96x96, .f32⟩ : BufTy).Contents (Elt F))⟩] concatenates_S0x96x96x96_S32x96x96x96_S0x96x96x96_S32x96x96x96_d0 : (⟨S32x96x96x96, .f32⟩ : BufTy).Contents (Elt F))),
    StableHlo.TRef.unary (.of main_call2_v6 : StableHlo.TRef sig ⟨S32x96x96x96, .f32⟩) (.of main_call2_v7 : StableHlo.TRef sig ⟨S32x1x96x96, .f32⟩) (extractStridedSlice S32x1x96x96 ![0, 0, 0, 0] · slices_S32x96x96x96_S32x1x96x96_0_0_0_0),
    StableHlo.TRef.unary (.of main_call2_v7 : StableHlo.TRef sig ⟨S32x1x96x96, .f32⟩) (.of main_call2_v8 : StableHlo.TRef sig ⟨S32x1x0x96x96, .f32⟩) (broadcastInDim S32x1x0x96x96 ![0, 1, 3, 4] bcast_S32x1x96x96_S32x1x0x96x96_0_1_3_4),
    StableHlo.TRef.reshape (.of main_call2_v8 : StableHlo.TRef sig ⟨S32x1x0x96x96, .f32⟩) (.of main_call2_v9 : StableHlo.TRef sig ⟨S32x0x96x96, .f32⟩) (rfl : (.f32 : EltTy) = .f32) shapeCasts_S32x1x0x96x96_S32x0x96x96,
    StableHlo.TRef.unary (.of main_call2_v6 : StableHlo.TRef sig ⟨S32x96x96x96, .f32⟩) (.of main_call2_v10 : StableHlo.TRef sig ⟨S32x1x96x96, .f32⟩) (extractStridedSlice S32x1x96x96 ![0, 95, 0, 0] · slices_S32x96x96x96_S32x1x96x96_0_95_0_0),
    StableHlo.TRef.unary (.of main_call2_v10 : StableHlo.TRef sig ⟨S32x1x96x96, .f32⟩) (.of main_call2_v11 : StableHlo.TRef sig ⟨S32x1x0x96x96, .f32⟩) (broadcastInDim S32x1x0x96x96 ![0, 1, 3, 4] bcast_S32x1x96x96_S32x1x0x96x96_0_1_3_4),
    StableHlo.TRef.reshape (.of main_call2_v11 : StableHlo.TRef sig ⟨S32x1x0x96x96, .f32⟩) (.of main_call2_v12 : StableHlo.TRef sig ⟨S32x0x96x96, .f32⟩) (rfl : (.f32 : EltTy) = .f32) shapeCasts_S32x1x0x96x96_S32x0x96x96,
    StableHlo.TRef.nary (Ts := ![⟨S32x0x96x96, .f32⟩, ⟨S32x96x96x96, .f32⟩, ⟨S32x0x96x96, .f32⟩]) (Fin.cons (.of main_call2_v9 : StableHlo.TRef sig ⟨S32x0x96x96, .f32⟩) (Fin.cons (.of main_call2_v6 : StableHlo.TRef sig ⟨S32x96x96x96, .f32⟩) (Fin.cons (.of main_call2_v12 : StableHlo.TRef sig ⟨S32x0x96x96, .f32⟩) (fun k => k.elim0)))) (.of main_call2_v13 : StableHlo.TRef sig ⟨S32x96x96x96, .f32⟩) (fun u => (concatenate S32x96x96x96 1 [⟨S32x0x96x96, (u 0 : (⟨S32x0x96x96, .f32⟩ : BufTy).Contents (Elt F))⟩, ⟨S32x96x96x96, (u 1 : (⟨S32x96x96x96, .f32⟩ : BufTy).Contents (Elt F))⟩, ⟨S32x0x96x96, (u 2 : (⟨S32x0x96x96, .f32⟩ : BufTy).Contents (Elt F))⟩] concatenates_S32x0x96x96_S32x96x96x96_S32x0x96x96_S32x96x96x96_d1 : (⟨S32x96x96x96, .f32⟩ : BufTy).Contents (Elt F))),
    StableHlo.TRef.unary (.of main_call2_v13 : StableHlo.TRef sig ⟨S32x96x96x96, .f32⟩) (.of main_call2_v14 : StableHlo.TRef sig ⟨S32x96x1x96, .f32⟩) (extractStridedSlice S32x96x1x96 ![0, 0, 0, 0] · slices_S32x96x96x96_S32x96x1x96_0_0_0_0),
    StableHlo.TRef.unary (.of main_call2_v14 : StableHlo.TRef sig ⟨S32x96x1x96, .f32⟩) (.of main_call2_v15 : StableHlo.TRef sig ⟨S32x96x1x1x96, .f32⟩) (broadcastInDim S32x96x1x1x96 ![0, 1, 2, 4] bcast_S32x96x1x96_S32x96x1x1x96_0_1_2_4),
    StableHlo.TRef.reshape (.of main_call2_v15 : StableHlo.TRef sig ⟨S32x96x1x1x96, .f32⟩) (.of main_call2_v16 : StableHlo.TRef sig ⟨S32x96x1x96, .f32⟩) (rfl : (.f32 : EltTy) = .f32) shapeCasts_S32x96x1x1x96_S32x96x1x96,
    StableHlo.TRef.unary (.of main_call2_v13 : StableHlo.TRef sig ⟨S32x96x96x96, .f32⟩) (.of main_call2_v17 : StableHlo.TRef sig ⟨S32x96x1x96, .f32⟩) (extractStridedSlice S32x96x1x96 ![0, 0, 95, 0] · slices_S32x96x96x96_S32x96x1x96_0_0_95_0),
    StableHlo.TRef.unary (.of main_call2_v17 : StableHlo.TRef sig ⟨S32x96x1x96, .f32⟩) (.of main_call2_v18 : StableHlo.TRef sig ⟨S32x96x1x1x96, .f32⟩) (broadcastInDim S32x96x1x1x96 ![0, 1, 2, 4] bcast_S32x96x1x96_S32x96x1x1x96_0_1_2_4),
    StableHlo.TRef.reshape (.of main_call2_v18 : StableHlo.TRef sig ⟨S32x96x1x1x96, .f32⟩) (.of main_call2_v19 : StableHlo.TRef sig ⟨S32x96x1x96, .f32⟩) (rfl : (.f32 : EltTy) = .f32) shapeCasts_S32x96x1x1x96_S32x96x1x96,
    StableHlo.TRef.nary (Ts := ![⟨S32x96x1x96, .f32⟩, ⟨S32x96x96x96, .f32⟩, ⟨S32x96x1x96, .f32⟩]) (Fin.cons (.of main_call2_v16 : StableHlo.TRef sig ⟨S32x96x1x96, .f32⟩) (Fin.cons (.of main_call2_v13 : StableHlo.TRef sig ⟨S32x96x96x96, .f32⟩) (Fin.cons (.of main_call2_v19 : StableHlo.TRef sig ⟨S32x96x1x96, .f32⟩) (fun k => k.elim0)))) (.of main_call2_v20 : StableHlo.TRef sig ⟨S32x96x98x96, .f32⟩) (fun u => (concatenate S32x96x98x96 2 [⟨S32x96x1x96, (u 0 : (⟨S32x96x1x96, .f32⟩ : BufTy).Contents (Elt F))⟩, ⟨S32x96x96x96, (u 1 : (⟨S32x96x96x96, .f32⟩ : BufTy).Contents (Elt F))⟩, ⟨S32x96x1x96, (u 2 : (⟨S32x96x1x96, .f32⟩ : BufTy).Contents (Elt F))⟩] concatenates_S32x96x1x96_S32x96x96x96_S32x96x1x96_S32x96x98x96_d2 : (⟨S32x96x98x96, .f32⟩ : BufTy).Contents (Elt F))),
    StableHlo.TRef.unary (.of main_call2_v20 : StableHlo.TRef sig ⟨S32x96x98x96, .f32⟩) (.of main_call2_v21 : StableHlo.TRef sig ⟨S32x96x98x1, .f32⟩) (extractStridedSlice S32x96x98x1 ![0, 0, 0, 0] · slices_S32x96x98x96_S32x96x98x1_0_0_0_0),
    StableHlo.TRef.unary (.of main_call2_v21 : StableHlo.TRef sig ⟨S32x96x98x1, .f32⟩) (.of main_call2_v22 : StableHlo.TRef sig ⟨S32x96x98x1x1, .f32⟩) (broadcastInDim S32x96x98x1x1 ![0, 1, 2, 3] bcast_S32x96x98x1_S32x96x98x1x1_0_1_2_3),
    StableHlo.TRef.reshape (.of main_call2_v22 : StableHlo.TRef sig ⟨S32x96x98x1x1, .f32⟩) (.of main_call2_v23 : StableHlo.TRef sig ⟨S32x96x98x1, .f32⟩) (rfl : (.f32 : EltTy) = .f32) shapeCasts_S32x96x98x1x1_S32x96x98x1,
    StableHlo.TRef.unary (.of main_call2_v20 : StableHlo.TRef sig ⟨S32x96x98x96, .f32⟩) (.of main_call2_v24 : StableHlo.TRef sig ⟨S32x96x98x1, .f32⟩) (extractStridedSlice S32x96x98x1 ![0, 0, 0, 95] · slices_S32x96x98x96_S32x96x98x1_0_0_0_95),
    StableHlo.TRef.unary (.of main_call2_v24 : StableHlo.TRef sig ⟨S32x96x98x1, .f32⟩) (.of main_call2_v25 : StableHlo.TRef sig ⟨S32x96x98x1x1, .f32⟩) (broadcastInDim S32x96x98x1x1 ![0, 1, 2, 3] bcast_S32x96x98x1_S32x96x98x1x1_0_1_2_3),
    StableHlo.TRef.reshape (.of main_call2_v25 : StableHlo.TRef sig ⟨S32x96x98x1x1, .f32⟩) (.of main_call2_v26 : StableHlo.TRef sig ⟨S32x96x98x1, .f32⟩) (rfl : (.f32 : EltTy) = .f32) shapeCasts_S32x96x98x1x1_S32x96x98x1,
    StableHlo.TRef.nary (Ts := ![⟨S32x96x98x1, .f32⟩, ⟨S32x96x98x96, .f32⟩, ⟨S32x96x98x1, .f32⟩]) (Fin.cons (.of main_call2_v23 : StableHlo.TRef sig ⟨S32x96x98x1, .f32⟩) (Fin.cons (.of main_call2_v20 : StableHlo.TRef sig ⟨S32x96x98x96, .f32⟩) (Fin.cons (.of main_call2_v26 : StableHlo.TRef sig ⟨S32x96x98x1, .f32⟩) (fun k => k.elim0)))) (.of main_v64 : StableHlo.TRef sig ⟨S32x96x98x98, .f32⟩) (fun u => (concatenate S32x96x98x98 3 [⟨S32x96x98x1, (u 0 : (⟨S32x96x98x1, .f32⟩ : BufTy).Contents (Elt F))⟩, ⟨S32x96x98x96, (u 1 : (⟨S32x96x98x96, .f32⟩ : BufTy).Contents (Elt F))⟩, ⟨S32x96x98x1, (u 2 : (⟨S32x96x98x1, .f32⟩ : BufTy).Contents (Elt F))⟩] concatenates_S32x96x98x1_S32x96x98x96_S32x96x98x1_S32x96x98x98_d3 : (⟨S32x96x98x98, .f32⟩ : BufTy).Contents (Elt F))) ]
theorem line6_sub : (line6 : List (HloOp τ sig (Elt F))).Forall fun op => op.bufs ⊆ tcRefs τ sig :=
  ⟨unary_bufs_sub .., unary_bufs_sub .., reshape_bufs_sub .., unary_bufs_sub .., unary_bufs_sub .., reshape_bufs_sub .., nary_bufs_sub .., unary_bufs_sub .., unary_bufs_sub .., reshape_bufs_sub .., unary_bufs_sub .., unary_bufs_sub .., reshape_bufs_sub .., nary_bufs_sub .., unary_bufs_sub .., unary_bufs_sub .., reshape_bufs_sub .., unary_bufs_sub .., unary_bufs_sub .., reshape_bufs_sub .., nary_bufs_sub .., unary_bufs_sub .., unary_bufs_sub .., reshape_bufs_sub .., unary_bufs_sub .., unary_bufs_sub .., reshape_bufs_sub .., nary_bufs_sub ..⟩
theorem line6_fresh : (line6 : List (HloOp τ sig (Elt F))).Forall fun op => op.fresh = ∅ := by
  simp only [List.Forall]; repeat' constructor
abbrev line7 : List (HloOp τ sig (Elt F)) :=
  [ StableHlo.nullary main_c_16 (constantI S_ 32 0#32),
    StableHlo.unary main_c_16 main_v65 (broadcastInDim S1 ![] bcast_S_S1 : (⟨S_, .i32⟩ : BufTy).Contents (Elt F) → (⟨S1, .i32⟩ : BufTy).Contents (Elt F)),
    StableHlo.nullary main_c_17 (constantI S_ 32 1#32),
    StableHlo.unary main_c_17 main_v66 (broadcastInDim S1 ![] bcast_S_S1 : (⟨S_, .i32⟩ : BufTy).Contents (Elt F) → (⟨S1, .i32⟩ : BufTy).Contents (Elt F)),
    StableHlo.binary main_v65 main_v66 main_v67 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v64 main_v67 main_v44 main_v68 ((fun x i u => Host.scatter scatter_S32x96x98x98_S2_S32x96x1x96_0123_n_23_0 (fun _ b => b) x i u) : (⟨S32x96x98x98, .f32⟩ : BufTy).Contents (Elt F) → (⟨S2, .i32⟩ : BufTy).Contents (Elt F) → (⟨S32x96x1x96, .f32⟩ : BufTy).Contents (Elt F) → (⟨S32x96x98x98, .f32⟩ : BufTy).Contents (Elt F)),
    StableHlo.nullary main_c_18 (constantI S_ 32 97#32),
    StableHlo.unary main_c_18 main_v69 (broadcastInDim S1 ![] bcast_S_S1 : (⟨S_, .i32⟩ : BufTy).Contents (Elt F) → (⟨S1, .i32⟩ : BufTy).Contents (Elt F)),
    StableHlo.nullary main_c_19 (constantI S_ 32 1#32),
    StableHlo.unary main_c_19 main_v70 (broadcastInDim S1 ![] bcast_S_S1 : (⟨S_, .i32⟩ : BufTy).Contents (Elt F) → (⟨S1, .i32⟩ : BufTy).Contents (Elt F)),
    StableHlo.binary main_v69 main_v70 main_v71 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v68 main_v71 main_v53 main_v72 ((fun x i u => Host.scatter scatter_S32x96x98x98_S2_S32x96x1x96_0123_n_23_0 (fun _ b => b) x i u) : (⟨S32x96x98x98, .f32⟩ : BufTy).Contents (Elt F) → (⟨S2, .i32⟩ : BufTy).Contents (Elt F) → (⟨S32x96x1x96, .f32⟩ : BufTy).Contents (Elt F) → (⟨S32x96x98x98, .f32⟩ : BufTy).Contents (Elt F)),
    StableHlo.nullary main_c_20 (constantI S_ 32 1#32),
    StableHlo.unary main_c_20 main_v73 (broadcastInDim S1 ![] bcast_S_S1 : (⟨S_, .i32⟩ : BufTy).Contents (Elt F) → (⟨S1, .i32⟩ : BufTy).Contents (Elt F)),
    StableHlo.nullary main_c_21 (constantI S_ 32 0#32),
    StableHlo.unary main_c_21 main_v74 (broadcastInDim S1 ![] bcast_S_S1 : (⟨S_, .i32⟩ : BufTy).Contents (Elt F) → (⟨S1, .i32⟩ : BufTy).Contents (Elt F)),
    StableHlo.binary main_v73 main_v74 main_v75 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v72 main_v75 main_v58 main_v76 ((fun x i u => Host.scatter scatter_S32x96x98x98_S2_S32x96x96x1_0123_n_23_0 (fun _ b => b) x i u) : (⟨S32x96x98x98, .f32⟩ : BufTy).Contents (Elt F) → (⟨S2, .i32⟩ : BufTy).Contents (Elt F) → (⟨S32x96x96x1, .f32⟩ : BufTy).Contents (Elt F) → (⟨S32x96x98x98, .f32⟩ : BufTy).Contents (Elt F)),
    StableHlo.nullary main_c_22 (constantI S_ 32 1#32),
    StableHlo.unary main_c_22 main_v77 (broadcastInDim S1 ![] bcast_S_S1 : (⟨S_, .i32⟩ : BufTy).Contents (Elt F) → (⟨S1, .i32⟩ : BufTy).Contents (Elt F)),
    StableHlo.nullary main_c_23 (constantI S_ 32 97#32),
    StableHlo.unary main_c_23 main_v78 (broadcastInDim S1 ![] bcast_S_S1 : (⟨S_, .i32⟩ : BufTy).Contents (Elt F) → (⟨S1, .i32⟩ : BufTy).Contents (Elt F)),
    StableHlo.binary main_v77 main_v78 main_v79 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v76 main_v79 main_v63 main_v80 ((fun x i u => Host.scatter scatter_S32x96x98x98_S2_S32x96x96x1_0123_n_23_0 (fun _ b => b) x i u) : (⟨S32x96x98x98, .f32⟩ : BufTy).Contents (Elt F) → (⟨S2, .i32⟩ : BufTy).Contents (Elt F) → (⟨S32x96x96x1, .f32⟩ : BufTy).Contents (Elt F) → (⟨S32x96x98x98, .f32⟩ : BufTy).Contents (Elt F)),
    StableHlo.nullary main_c_24 (constantI S_ 32 0#32),
    StableHlo.unary main_c_24 main_v81 (broadcastInDim S8 ![] bcast_S_S8 : (⟨S_, .i32⟩ : BufTy).Contents (Elt F) → (⟨S8, .i32⟩ : BufTy).Contents (Elt F)),
    StableHlo.binary main_v11 main_v81 main_v82 (cmpi .slt : (⟨S8, .i32⟩ : BufTy).Contents (Elt F) → (⟨S8, .i32⟩ : BufTy).Contents (Elt F) → (⟨S8, .i1⟩ : BufTy).Contents (Elt F)),
    StableHlo.nullary main_c_25 (constantI S_ 32 32#32),
    StableHlo.unary main_c_25 main_v83 (broadcastInDim S8 ![] bcast_S_S8 : (⟨S_, .i32⟩ : BufTy).Contents (Elt F) → (⟨S8, .i32⟩ : BufTy).Contents (Elt F)),
    StableHlo.binary main_v11 main_v83 main_v84 (addi : (⟨S8, .i32⟩ : BufTy).Contents (Elt F) → (⟨S8, .i32⟩ : BufTy).Contents (Elt F) → (⟨S8, .i32⟩ : BufTy).Contents (Elt F)),
    StableHlo.ternary main_v82 main_v84 main_v11 main_v85 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v85 main_v86 (broadcastInDim S8x1 ![0] bcast_S8_S8x1_0 : (⟨S8, .i32⟩ : BufTy).Contents (Elt F) → (⟨S8x1, .i32⟩ : BufTy).Contents (Elt F)),
    StableHlo.nullary main_c_26 (constantI S_ 32 0#32),
    StableHlo.unary main_c_26 main_v87 (broadcastInDim S8x1 ![] bcast_S_S8x1 : (⟨S_, .i32⟩ : BufTy).Contents (Elt F) → (⟨S8x1, .i32⟩ : BufTy).Contents (Elt F)),
    StableHlo.binary main_v86 main_v87 main_v88 ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F)),
    StableHlo.nullary main_cst_27 (constant S_ .f32 0x00000000#32),
    StableHlo.unary main_cst_27 main_v89 (broadcastInDim S8x96x1x98 ![] bcast_S_S8x96x1x98 : (⟨S_, .f32⟩ : BufTy).Contents (Elt F) → (⟨S8x96x1x98, .f32⟩ : BufTy).Contents (Elt F)) ]
theorem line7_sub : (line7 : List (HloOp τ sig (Elt F))).Forall fun op => op.bufs ⊆ tcRefs τ sig :=
  ⟨nullary_bufs_sub .., unary_bufs_sub .., nullary_bufs_sub .., unary_bufs_sub .., binary_bufs_sub .., ternary_bufs_sub .., nullary_bufs_sub .., unary_bufs_sub .., nullary_bufs_sub .., unary_bufs_sub .., binary_bufs_sub .., ternary_bufs_sub .., nullary_bufs_sub .., unary_bufs_sub .., nullary_bufs_sub .., unary_bufs_sub .., binary_bufs_sub .., ternary_bufs_sub .., nullary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., unary_bufs_sub .., binary_bufs_sub .., nullary_bufs_sub .., unary_bufs_sub ..⟩
theorem line7_fresh : (line7 : List (HloOp τ sig (Elt F))).Forall fun op => op.fresh = ∅ := by
  simp only [List.Forall]; repeat' constructor
abbrev line8 : List (HloOp τ sig (Elt F)) :=
  [ StableHlo.ternary main_v80 main_v88 main_v89 main_v90 ((fun x i u => Host.scatter scatter_S32x96x98x98_S8x2_S8x96x1x98_123_0_02_1 (fun _ b => b) x i u) : (⟨S32x96x98x98, .f32⟩ : BufTy).Contents (Elt F) → (⟨S8x2, .i32⟩ : BufTy).Contents (Elt F) → (⟨S8x96x1x98, .f32⟩ : BufTy).Contents (Elt F) → (⟨S32x96x98x98, .f32⟩ : BufTy).Contents (Elt F)),
    StableHlo.nullary main_c_28 (constantI S_ 32 0#32),
    StableHlo.unary main_c_28 main_v91 (broadcastInDim S8 ![] bcast_S_S8 : (⟨S_, .i32⟩ : BufTy).Contents (Elt F) → (⟨S8, .i32⟩ : BufTy).Contents (Elt F)),
    StableHlo.binary main_v25 main_v91 main_v92 (cmpi .slt : (⟨S8, .i32⟩ : BufTy).Contents (Elt F) → (⟨S8, .i32⟩ : BufTy).Contents (Elt F) → (⟨S8, .i1⟩ : BufTy).Contents (Elt F)),
    StableHlo.nullary main_c_29 (constantI S_ 32 32#32),
    StableHlo.unary main_c_29 main_v93 (broadcastInDim S8 ![] bcast_S_S8 : (⟨S_, .i32⟩ : BufTy).Contents (Elt F) → (⟨S8, .i32⟩ : BufTy).Contents (Elt F)),
    StableHlo.binary main_v25 main_v93 main_v94 (addi : (⟨S8, .i32⟩ : BufTy).Contents (Elt F) → (⟨S8, .i32⟩ : BufTy).Contents (Elt F) → (⟨S8, .i32⟩ : BufTy).Contents (Elt F)),
    StableHlo.ternary main_v92 main_v94 main_v25 main_v95 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.nullary main_c_30 (constantI S_ 32 97#32),
    StableHlo.unary main_c_30 main_v96 (broadcastInDim S8 ![] bcast_S_S8 : (⟨S_, .i32⟩ : BufTy).Contents (Elt F) → (⟨S8, .i32⟩ : BufTy).Contents (Elt F)),
    StableHlo.unary main_v96 main_v97 (id : (⟨S8, .i32⟩ : BufTy).Contents (Elt F) → (⟨S8, .i32⟩ : BufTy).Contents (Elt F)),
    StableHlo.unary main_v95 main_v98 (broadcastInDim S8x1 ![0] bcast_S8_S8x1_0 : (⟨S8, .i32⟩ : BufTy).Contents (Elt F) → (⟨S8x1, .i32⟩ : BufTy).Contents (Elt F)),
    StableHlo.unary main_v97 main_v99 (broadcastInDim S8x1 ![0] bcast_S8_S8x1_0 : (⟨S8, .i32⟩ : BufTy).Contents (Elt F) → (⟨S8x1, .i32⟩ : BufTy).Contents (Elt F)),
    StableHlo.binary main_v98 main_v99 main_v100 ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F)),
    StableHlo.nullary main_cst_31 (constant S_ .f32 0x00000000#32),
    StableHlo.unary main_cst_31 main_v101 (broadcastInDim S8x96x98 ![] bcast_S_S8x96x98 : (⟨S_, .f32⟩ : BufTy).Contents (Elt F) → (⟨S8x96x98, .f32⟩ : BufTy).Contents (Elt F)),
    StableHlo.ternary main_v90 main_v100 main_v101 main_v102 ((fun x i u => Host.scatter scatter_S32x96x98x98_S8x2_S8x96x98_12_02_02_1 (fun _ b => b) x i u) : (⟨S32x96x98x98, .f32⟩ : BufTy).Contents (Elt F) → (⟨S8x2, .i32⟩ : BufTy).Contents (Elt F) → (⟨S8x96x98, .f32⟩ : BufTy).Contents (Elt F) → (⟨S32x96x98x98, .f32⟩ : BufTy).Contents (Elt F)),
    StableHlo.nullary main_c_32 (constantI S_ 32 0#32),
    StableHlo.unary main_c_32 main_v103 (broadcastInDim S8 ![] bcast_S_S8 : (⟨S_, .i32⟩ : BufTy).Contents (Elt F) → (⟨S8, .i32⟩ : BufTy).Contents (Elt F)),
    StableHlo.binary main_v30 main_v103 main_v104 (cmpi .slt : (⟨S8, .i32⟩ : BufTy).Contents (Elt F) → (⟨S8, .i32⟩ : BufTy).Contents (Elt F) → (⟨S8, .i1⟩ : BufTy).Contents (Elt F)),
    StableHlo.nullary main_c_33 (constantI S_ 32 32#32),
    StableHlo.unary main_c_33 main_v105 (broadcastInDim S8 ![] bcast_S_S8 : (⟨S_, .i32⟩ : BufTy).Contents (Elt F) → (⟨S8, .i32⟩ : BufTy).Contents (Elt F)),
    StableHlo.binary main_v30 main_v105 main_v106 (addi : (⟨S8, .i32⟩ : BufTy).Contents (Elt F) → (⟨S8, .i32⟩ : BufTy).Contents (Elt F) → (⟨S8, .i32⟩ : BufTy).Contents (Elt F)),
    StableHlo.ternary main_v104 main_v106 main_v30 main_v107 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v107 main_v108 (broadcastInDim S8x1 ![0] bcast_S8_S8x1_0 : (⟨S8, .i32⟩ : BufTy).Contents (Elt F) → (⟨S8x1, .i32⟩ : BufTy).Contents (Elt F)),
    StableHlo.nullary main_c_34 (constantI S_ 32 0#32),
    StableHlo.unary main_c_34 main_v109 (broadcastInDim S8x1 ![] bcast_S_S8x1 : (⟨S_, .i32⟩ : BufTy).Contents (Elt F) → (⟨S8x1, .i32⟩ : BufTy).Contents (Elt F)),
    StableHlo.binary main_v108 main_v109 main_v110 ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F)),
    StableHlo.nullary main_cst_35 (constant S_ .f32 0x00000000#32),
    StableHlo.unary main_cst_35 main_v111 (broadcastInDim S8x96x98x1 ![] bcast_S_S8x96x98x1 : (⟨S_, .f32⟩ : BufTy).Contents (Elt F) → (⟨S8x96x98x1, .f32⟩ : BufTy).Contents (Elt F)),
    StableHlo.ternary main_v102 main_v110 main_v111 main_v112 ((fun x i u => Host.scatter scatter_S32x96x98x98_S8x2_S8x96x98x1_123_0_03_1 (fun _ b => b) x i u) : (⟨S32x96x98x98, .f32⟩ : BufTy).Contents (Elt F) → (⟨S8x2, .i32⟩ : BufTy).Contents (Elt F) → (⟨S8x96x98x1, .f32⟩ : BufTy).Contents (Elt F) → (⟨S32x96x98x98, .f32⟩ : BufTy).Contents (Elt F)),
    StableHlo.nullary main_c_36 (constantI S_ 32 0#32),
    StableHlo.unary main_c_36 main_v113 (broadcastInDim S8 ![] bcast_S_S8 : (⟨S_, .i32⟩ : BufTy).Contents (Elt F) → (⟨S8, .i32⟩ : BufTy).Contents (Elt F)),
    StableHlo.binary main_v35 main_v113 main_v114 (cmpi .slt : (⟨S8, .i32⟩ : BufTy).Contents (Elt F) → (⟨S8, .i32⟩ : BufTy).Contents (Elt F) → (⟨S8, .i1⟩ : BufTy).Contents (Elt F)),
    StableHlo.nullary main_c_37 (constantI S_ 32 32#32),
    StableHlo.unary main_c_37 main_v115 (broadcastInDim S8 ![] bcast_S_S8 : (⟨S_, .i32⟩ : BufTy).Contents (Elt F) → (⟨S8, .i32⟩ : BufTy).Contents (Elt F)),
    StableHlo.binary main_v35 main_v115 main_v116 (addi : (⟨S8, .i32⟩ : BufTy).Contents (Elt F) → (⟨S8, .i32⟩ : BufTy).Contents (Elt F) → (⟨S8, .i32⟩ : BufTy).Contents (Elt F)),
    StableHlo.ternary main_v114 main_v116 main_v35 main_v117 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v117 main_v118 (broadcastInDim S8x1 ![0] bcast_S8_S8x1_0 : (⟨S8, .i32⟩ : BufTy).Contents (Elt F) → (⟨S8x1, .i32⟩ : BufTy).Contents (Elt F)),
    StableHlo.nullary main_c_38 (constantI S_ 32 97#32),
    StableHlo.unary main_c_38 main_v119 (broadcastInDim S8x1 ![] bcast_S_S8x1 : (⟨S_, .i32⟩ : BufTy).Contents (Elt F) → (⟨S8x1, .i32⟩ : BufTy).Contents (Elt F)),
    StableHlo.binary main_v118 main_v119 main_v120 ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F)),
    StableHlo.nullary main_cst_39 (constant S_ .f32 0x00000000#32),
    StableHlo.unary main_cst_39 main_v121 (broadcastInDim S8x96x98x1 ![] bcast_S_S8x96x98x1 : (⟨S_, .f32⟩ : BufTy).Contents (Elt F) → (⟨S8x96x98x1, .f32⟩ : BufTy).Contents (Elt F)),
    StableHlo.ternary main_v112 main_v120 main_v121 main_v122 ((fun x i u => Host.scatter scatter_S32x96x98x98_S8x2_S8x96x98x1_123_0_03_1 (fun _ b => b) x i u) : (⟨S32x96x98x98, .f32⟩ : BufTy).Contents (Elt F) → (⟨S8x2, .i32⟩ : BufTy).Contents (Elt F) → (⟨S8x96x98x1, .f32⟩ : BufTy).Contents (Elt F) → (⟨S32x96x98x98, .f32⟩ : BufTy).Contents (Elt F)) ]
theorem line8_sub : (line8 : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., unary_bufs_sub .., binary_bufs_sub .., nullary_bufs_sub .., unary_bufs_sub .., ternary_bufs_sub ..⟩
theorem line8_fresh : (line8 : List (HloOp τ sig (Elt F))).Forall fun op => op.fresh = ∅ := by
  simp only [List.Forall]; repeat' constructor
theorem part0_eq (c : Dev nD) : main_part0 (F := F) c = (Pipeline.chainK [seq line0, seq line1, seq line2, seq line3] (seq line4) : Prog (TpuEff nD τ sig (Elt F) (Pipeline.Sig Λ₀ (Fin 0) fun p => (pcfgs (F := F) p).Adm) .tc) PUnit) := by
  rewrite [chainK_seq_cons, Pipeline.chainK_cons, chainK_seq_cons, Pipeline.chainK_cons]
  chain_rfl
theorem part1_eq (c : Dev nD) : main_part1 (F := F) c = (Pipeline.chainK [seq line5, seq line6] (seq line7) : Prog (TpuEff nD τ sig (Elt F) (Pipeline.Sig Λ₀ (Fin 0) fun p => (pcfgs (F := F) p).Adm) .tc) PUnit) := by
  rewrite [chainK_seq_cons, Pipeline.chainK_cons]
  chain_rfl
theorem part2_eq (c : Dev nD) : main_part2 (F := F) c = (Pipeline.chain [seq line8] : Prog (TpuEff nD τ sig (Elt F) (Pipeline.Sig Λ₀ (Fin 0) fun p => (pcfgs (F := F) p).Adm) .tc) PUnit) := by
  rewrite [chain_seq_cons]
  chain_rfl

/-- The whole line. -/
abbrev line : List (HloOp τ sig (Elt F)) := List.flatten [line0, line1, line2, line3, line4, line5, line6, line7, line8]

theorem main_eq (c : Dev nD) : main (F := F) c = seq line := by
  have h : main (F := F) c = Pipeline.chain (List.map seq [line0, line1, line2, line3, line4, line5, line6, line7, line8] ++ []) := by
    show (main_part0 (F := F) c >>= fun _ => main_part1 (F := F) c >>= fun _ => main_part2 (F := F) c) = _
    rewrite [part2_eq, part1_eq, part0_eq, Pipeline.chainK_bind_chain, Pipeline.chainK_bind_chain]
    chain_rfl
  rw [h, chain_map_seq_append, Pipeline.chain_nil]
  exact bind_pure _

theorem line_sub : (line : List (HloOp τ sig (Elt F))).Forall fun op => op.bufs ⊆ tcRefs τ sig := by
  rw [List.forall_iff_forall_mem]
  intro op h
  obtain ⟨l, hl, h⟩ := List.mem_flatten.mp h
  simp only [List.mem_cons, List.not_mem_nil, or_false] at hl
  rcases hl with rfl | rfl | rfl | rfl | rfl | rfl | rfl | rfl | rfl
  · exact List.forall_iff_forall_mem.mp line0_sub op h
  · exact List.forall_iff_forall_mem.mp line1_sub op h
  · exact List.forall_iff_forall_mem.mp line2_sub op h
  · exact List.forall_iff_forall_mem.mp line3_sub op h
  · exact List.forall_iff_forall_mem.mp line4_sub op h
  · exact List.forall_iff_forall_mem.mp line5_sub op h
  · exact List.forall_iff_forall_mem.mp line6_sub op h
  · exact List.forall_iff_forall_mem.mp line7_sub op h
  · exact List.forall_iff_forall_mem.mp line8_sub op h
theorem line_fresh : ∀ op ∈ (line : List (HloOp τ sig (Elt F))), op.fresh = ∅ := by
  intro op h
  obtain ⟨l, hl, h⟩ := List.mem_flatten.mp h
  simp only [List.mem_cons, List.not_mem_nil, or_false] at hl
  rcases hl with rfl | rfl | rfl | rfl | rfl | rfl | rfl | rfl | rfl
  · exact List.forall_iff_forall_mem.mp line0_fresh op h
  · exact List.forall_iff_forall_mem.mp line1_fresh op h
  · exact List.forall_iff_forall_mem.mp line2_fresh op h
  · exact List.forall_iff_forall_mem.mp line3_fresh op h
  · exact List.forall_iff_forall_mem.mp line4_fresh op h
  · exact List.forall_iff_forall_mem.mp line5_fresh op h
  · exact List.forall_iff_forall_mem.mp line6_fresh op h
  · exact List.forall_iff_forall_mem.mp line7_fresh op h
  · exact List.forall_iff_forall_mem.mp line8_fresh op h

theorem scopedRefs_eq : (Finset.univ.filter fun b : Ref sig .tc => b.isScoped) = ∅ := by decide
theorem scopedSems_eq : (Finset.univ.filter fun sm : SemLoc sig => sm.isScoped .tc) = ∅ := by decide

/-- The reference runs to the fold of its operations over the launch contents, every counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = after line (launchContents m c) (Proc.devRef .tc b))
        ∧ r.2.sem = fun _ => 0 :=
  (θ_run defs _ _).mono (fun r h => ⟨h, sem_eq_zero_of_no_sems rfl r.2⟩)
    (run_seq scopedRefs_eq scopedSems_eq defs main (fun _ => line) main_eq (fun _ => line_sub) m ρ (fun _ => line_fresh))

theorem arg0_eq (V : Valuation τ sig (Elt F)) : after line V (Proc.devRef .tc main_arg0) = V (Proc.devRef .tc main_arg0) := by
  after_reads_simp

end Cert.ReferenceIdeal.Pad

end
-- ==== Proof.RefPad.lean ====
/-
  The reference: a patch with its edges repeated once on each of its four sides.
-/
module

public import proofs.«01_k».proof.Proof.RefRun
public import proofs.«01_k».proof.Proof.Spec
public import Idealize.ShloMosaic.Lib.StableHlo.ReadAt
public import Idealize.ShloMosaic.Lib.Pointwise
public import Idealize.ShloMosaic.Lib.Tactic.WordOmega
public import Idealize.ShloMosaic.Lib.Routing.OpsPair
public import Idealize.ShloMosaic.Lib.Routing.OpsSet

@[expose] public section

noncomputable section

namespace Cert.ReferenceIdeal.Pad

open Cert.ReferenceIdeal Cert.ReferenceIdeal.Gen
open Idealize.ShloMosaic Idealize.ShloMosaic.TcCoe Idealize.ShloMosaic.StableHlo

variable (W : Valuation τ sig (Elt Ideal))

/-! ## The patch with its edges repeated -/

/-- The patches that the reference is given. -/
abbrev X : S32x96x96x96.Idx → EReal := W (Proc.devRef .tc main_arg0)

/-- The number in the patch that is nearest to a number of the padded patch. -/
def near (i : ℕ) : Fin 96 := ⟨min (i - 1) 95, by omega⟩
theorem near_lo {i : ℕ} (h : i < 1) : (0 : Fin 96) = near i := Fin.ext (by show 0 = min (i - 1) 95; omega)
theorem near_mid {i : ℕ} (h' : i - 1 < 96) : (⟨i - 1, h'⟩ : Fin 96) = near i :=
  Fin.ext (by show i - 1 = min (i - 1) 95; omega)
theorem near_hi {i : ℕ} (h : ¬ i - 1 < 96) : (95 : Fin 96) = near i := Fin.ext (by show 95 = min (i - 1) 95; omega)

set_option maxHeartbeats 6400000 in
theorem at6 (j : S32x96x96x96.Idx) :
    (upto line W 97 (Proc.devRef .tc main_call2_v6) : S32x96x96x96.Idx → EReal) j = X W j := by
  after_reads_at
  rw [dif_neg (Nat.not_lt_zero _)]
  change (upto line W _ (Proc.devRef .tc main_arg0) : S32x96x96x96.Idx → EReal) _ = _
  after_reads_at

set_option maxHeartbeats 6400000 in
theorem at13 (j : S32x96x96x96.Idx) :
    (upto line W 104 (Proc.devRef .tc main_call2_v13) : S32x96x96x96.Idx → EReal) j = X W j := by
  after_reads_at
  rw [dif_neg (Nat.not_lt_zero _)]
  exact at6 W _

set_option maxHeartbeats 6400000 in
theorem at16 (j : S32x96x1x96.Idx) :
    (upto line W 104 (Proc.devRef .tc main_call2_v16) : S32x96x1x96.Idx → EReal) j = X W (ix4 (j 0) (j 1) 0 (j 3)) := by
  after_reads_at
  rw [dif_neg (Nat.not_lt_zero _)]
  exact at6 W _

set_option maxHeartbeats 6400000 in
theorem at19 (j : S32x96x1x96.Idx) :
    (upto line W 104 (Proc.devRef .tc main_call2_v19) : S32x96x1x96.Idx → EReal) j = X W (ix4 (j 0) (j 1) 95 (j 3)) := by
  after_reads_at
  rw [dif_neg (Nat.not_lt_zero _)]
  exact at6 W _

set_option maxHeartbeats 6400000 in
theorem at20 (j : S32x96x98x96.Idx) :
    (upto line W 111 (Proc.devRef .tc main_call2_v20) : S32x96x98x96.Idx → EReal) j = X W (ix4 (j 0) (j 1) (near (j 2).val) (j 3)) := by
  after_reads_at
  split
  · next h => exact (at16 W _).trans (congrArg (fun r : Fin 96 => X W (ix4 (j 0) (j 1) r (j 3))) (near_lo h))
  · split
    · next h => exact (at13 W _).trans (congrArg (fun r : Fin 96 => X W (ix4 (j 0) (j 1) r (j 3))) (near_mid h))
    · next h => exact (at19 W _).trans (congrArg (fun r : Fin 96 => X W (ix4 (j 0) (j 1) r (j 3))) (near_hi h))

set_option maxHeartbeats 6400000 in
theorem at23 (j : S32x96x98x1.Idx) :
    (upto line W 111 (Proc.devRef .tc main_call2_v23) : S32x96x98x1.Idx → EReal) j = X W (ix4 (j 0) (j 1) (near (j 2).val) 0) := by
  after_reads_at
  split
  · next h => exact (at16 W _).trans (congrArg (fun r : Fin 96 => X W (ix4 (j 0) (j 1) r 0)) (near_lo h))
  · split
    · next h => exact (at13 W _).trans (congrArg (fun r : Fin 96 => X W (ix4 (j 0) (j 1) r 0)) (near_mid h))
    · next h => exact (at19 W _).trans (congrArg (fun r : Fin 96 => X W (ix4 (j 0) (j 1) r 0)) (near_hi h))

set_option maxHeartbeats 6400000 in
theorem at26 (j : S32x96x98x1.Idx) :
    (upto line W 111 (Proc.devRef .tc main_call2_v26) : S32x96x98x1.Idx → EReal) j = X W (ix4 (j 0) (j 1) (near (j 2).val) 95) := by
  after_reads_at
  split
  · next h => exact (at16 W _).trans (congrArg (fun r : Fin 96 => X W (ix4 (j 0) (j 1) r 95)) (near_lo h))
  · split
    · next h => exact (at13 W _).trans (congrArg (fun r : Fin 96 => X W (ix4 (j 0) (j 1) r 95)) (near_mid h))
    · next h => exact (at19 W _).trans (congrArg (fun r : Fin 96 => X W (ix4 (j 0) (j 1) r 95)) (near_hi h))

set_option maxHeartbeats 6400000 in
/-- Each element is the nearest one of the patch. -/
theorem at64 (n : Fin 32) (d : Fin 96) (i j : Fin 98) :
    (after line W (Proc.devRef .tc main_v64) : S32x96x98x98.Idx → EReal) (ix4 n d i j) = X W (ix4 n d (near i.val) (near j.val)) := by
  after_reads_at
  split
  · next h => exact (at23 W _).trans (congrArg (fun r : Fin 96 => X W (ix4 n d (near i.val) r)) (near_lo h))
  · split
    · next h => exact (at20 W _).trans (congrArg (fun r : Fin 96 => X W (ix4 n d (near i.val) r)) (near_mid h))
    · next h => exact (at26 W _).trans (congrArg (fun r : Fin 96 => X W (ix4 n d (near i.val) r)) (near_hi h))

end Cert.ReferenceIdeal.Pad

end
-- ==== Proof.RefParts.lean ====
/-
  The reference: its means, and the lists that say where what it computes is put.
-/
module

public import proofs.«01_k».proof.Proof.RefRun
public import proofs.«01_k».proof.Proof.Spec
public import Idealize.ShloMosaic.Lib.StableHlo.ReadAt
public import Idealize.ShloMosaic.Lib.Pointwise
public import Idealize.ShloMosaic.Lib.Tactic.WordOmega
public import Idealize.ShloMosaic.Lib.Routing.OpsPair
public import Idealize.ShloMosaic.Lib.Routing.OpsSet

@[expose] public section

noncomputable section

namespace Cert.ReferenceIdeal.Pad

open Cert.ReferenceIdeal Cert.ReferenceIdeal.Gen
open Idealize.ShloMosaic Idealize.ShloMosaic.TcCoe Idealize.ShloMosaic.StableHlo

variable (W : Valuation τ sig (Elt Ideal))

/-! ## The means -/

/-- The patches that the reference is given. -/
abbrev batch : S32x96x96x96.Idx → EReal := W (Proc.devRef .tc main_arg0)

/-! Along the first and the last row, and at the left and the right of each. -/

open Cert.Pad in
theorem mean44 (n : Fin 32) (d : Fin 96) (j : Fin 96) :
    (after line W (Proc.devRef .tc main_v44) : S32x96x1x96.Idx → EReal) (ix4 n d 0 j) = avg (row (batch W) n d 0) j.val := by
  after_reads_at
  rw [den_bits]
  unfold avg
  have e1 : row (batch W) n d 0 (j.val + 1) = if h : 1 + j.val < 96 then batch W (ix4 n d 0 ⟨1 + j.val, h⟩) else (0 : EReal) := by
    unfold row
    simp only [Nat.add_comm]
  have e2 : row (batch W) n d 0 (j.val + 2) = if h : 2 + j.val < 96 then batch W (ix4 n d 0 ⟨2 + j.val, h⟩) else (0 : EReal) := by
    unfold row
    simp only [Nat.add_comm]
  have ez : constant (F := Ideal) S_ FTy.f32 0#32 (Shape.Idx.first h_S_) = (0 : EReal) := Ideal.ofBits_zero_f32
  rw [row_at, e1, e2]
  simp only [id_eq]
  rw [ez]

open Cert.Pad in
theorem mean53 (n : Fin 32) (d : Fin 96) (j : Fin 96) :
    (after line W (Proc.devRef .tc main_v53) : S32x96x1x96.Idx → EReal) (ix4 n d 0 j) = avg (row (batch W) n d 95) j.val := by
  after_reads_at
  rw [den_bits]
  unfold avg
  have e1 : row (batch W) n d 95 (j.val + 1) = if h : 1 + j.val < 96 then batch W (ix4 n d 95 ⟨1 + j.val, h⟩) else (0 : EReal) := by
    unfold row
    simp only [Nat.add_comm]
  have e2 : row (batch W) n d 95 (j.val + 2) = if h : 2 + j.val < 96 then batch W (ix4 n d 95 ⟨2 + j.val, h⟩) else (0 : EReal) := by
    unfold row
    simp only [Nat.add_comm]
  have ez : constant (F := Ideal) S_ FTy.f32 0#32 (Shape.Idx.first h_S_) = (0 : EReal) := Ideal.ofBits_zero_f32
  rw [row_at, e1, e2]
  simp only [id_eq]
  rw [ez]

open Cert.Pad in
theorem mean58 (n : Fin 32) (d : Fin 96) (i : Fin 96) :
    (after line W (Proc.devRef .tc main_v58) : S32x96x96x1.Idx → EReal) (ix4 n d i 0) = avg (row (batch W) n d i) 0 := by
  after_reads_at
  rw [den_bits]
  unfold avg row
  rw [Fin.sum_univ_three]
  rfl

open Cert.Pad in
theorem mean63 (n : Fin 32) (d : Fin 96) (i : Fin 96) :
    (after line W (Proc.devRef .tc main_v63) : S32x96x96x1.Idx → EReal) (ix4 n d i 0) = avg (row (batch W) n d i) 93 := by
  after_reads_at
  rw [den_bits]
  unfold avg row
  rw [Fin.sum_univ_three]
  rfl

/-! ## The lists of patches and places -/

theorem place67_0 : ((after line W (Proc.devRef .tc main_v67) : S2.Idx → BitVec 32) (ix1 0)).toInt = 0 := by
  after_reads_at
  rfl
theorem place67_1 : ((after line W (Proc.devRef .tc main_v67) : S2.Idx → BitVec 32) (ix1 1)).toInt = 1 := by
  after_reads_at
  rfl
theorem place71_0 : ((after line W (Proc.devRef .tc main_v71) : S2.Idx → BitVec 32) (ix1 0)).toInt = 97 := by
  after_reads_at
  rfl
theorem place71_1 : ((after line W (Proc.devRef .tc main_v71) : S2.Idx → BitVec 32) (ix1 1)).toInt = 1 := by
  after_reads_at
  rfl
theorem place75_0 : ((after line W (Proc.devRef .tc main_v75) : S2.Idx → BitVec 32) (ix1 0)).toInt = 1 := by
  after_reads_at
  rfl
theorem place75_1 : ((after line W (Proc.devRef .tc main_v75) : S2.Idx → BitVec 32) (ix1 1)).toInt = 0 := by
  after_reads_at
  rfl
theorem place79_0 : ((after line W (Proc.devRef .tc main_v79) : S2.Idx → BitVec 32) (ix1 0)).toInt = 1 := by
  after_reads_at
  rfl
theorem place79_1 : ((after line W (Proc.devRef .tc main_v79) : S2.Idx → BitVec 32) (ix1 1)).toInt = 97 := by
  after_reads_at
  rfl

theorem list88_0 (a : Fin 8) : ((after line W (Proc.devRef .tc main_v88) : S8x2.Idx → BitVec 32) (ix2 a 0)).toInt = ((a.val % 4 + 16 * (a.val / 4) : ℕ) : ℤ) := by
  after_reads_at
  revert a
  decide
theorem list88_1 (a : Fin 8) : ((after line W (Proc.devRef .tc main_v88) : S8x2.Idx → BitVec 32) (ix2 a 1)).toInt = 0 := by
  after_reads_at
  rfl
theorem list100_0 (a : Fin 8) : ((after line W (Proc.devRef .tc main_v100) : S8x2.Idx → BitVec 32) (ix2 a 0)).toInt = ((12 + a.val % 4 + 16 * (a.val / 4) : ℕ) : ℤ) := by
  after_reads_at
  revert a
  decide
theorem list100_1 (a : Fin 8) : ((after line W (Proc.devRef .tc main_v100) : S8x2.Idx → BitVec 32) (ix2 a 1)).toInt = 97 := by
  after_reads_at
  rfl
theorem list110_0 (a : Fin 8) : ((after line W (Proc.devRef .tc main_v110) : S8x2.Idx → BitVec 32) (ix2 a 0)).toInt = ((4 * a.val : ℕ) : ℤ) := by
  after_reads_at
  revert a
  decide
theorem list110_1 (a : Fin 8) : ((after line W (Proc.devRef .tc main_v110) : S8x2.Idx → BitVec 32) (ix2 a 1)).toInt = 0 := by
  after_reads_at
  rfl
theorem list120_0 (a : Fin 8) : ((after line W (Proc.devRef .tc main_v120) : S8x2.Idx → BitVec 32) (ix2 a 0)).toInt = ((3 + 4 * a.val : ℕ) : ℤ) := by
  after_reads_at
  revert a
  decide
theorem list120_1 (a : Fin 8) : ((after line W (Proc.devRef .tc main_v120) : S8x2.Idx → BitVec 32) (ix2 a 1)).toInt = 97 := by
  after_reads_at
  rfl

theorem zero89 (k : S8x96x1x98.Idx) : (after line W (Proc.devRef .tc main_v89) : S8x96x1x98.Idx → EReal) k = (0 : EReal) := by
  after_reads_at
theorem zero101 (k : S8x96x98.Idx) : (after line W (Proc.devRef .tc main_v101) : S8x96x98.Idx → EReal) k = (0 : EReal) := by
  after_reads_at
theorem zero111 (k : S8x96x98x1.Idx) : (after line W (Proc.devRef .tc main_v111) : S8x96x98x1.Idx → EReal) k = (0 : EReal) := by
  after_reads_at
theorem zero121 (k : S8x96x98x1.Idx) : (after line W (Proc.devRef .tc main_v121) : S8x96x98x1.Idx → EReal) k = (0 : EReal) := by
  after_reads_at

end Cert.ReferenceIdeal.Pad

end
-- ==== Proof.RefScatter.lean ====
/-
  The reference's scatters, read at an index: what is put into a row or a column, and what is cleared.
-/
module

public import proofs.«01_k».proof.Proof.RefRun
public import proofs.«01_k».proof.Proof.Spec
public import Idealize.ShloMosaic.Lib.StableHlo.ReadAt
public import Idealize.ShloMosaic.Lib.Pointwise
public import Idealize.ShloMosaic.Lib.Tactic.WordOmega
public import Idealize.ShloMosaic.Lib.Routing.OpsPair
public import Idealize.ShloMosaic.Lib.Routing.OpsSet

@[expose] public section

noncomputable section

namespace Cert.ReferenceIdeal.Pad

open Cert.ReferenceIdeal Cert.ReferenceIdeal.Gen
open Idealize.ShloMosaic Idealize.ShloMosaic.TcCoe Idealize.ShloMosaic.StableHlo

variable (W : Valuation τ sig (Elt Ideal))

/-! ## Where an update lands -/

abbrev dRow := scatter_S32x96x98x98_S2_S32x96x1x96_0123_n_23_0
theorem dRow_window (k : S32x96x1x96.Idx) (a : Fin 4) : dRow.window k a = ![(k 0).val, (k 1).val, (k 2).val, (k 3).val] a := by
  fin_cases a <;> rfl
theorem dRow_start (k : S32x96x1x96.Idx) (idx : IVec S2 32) (a : Fin 4) :
    dRow.start k idx a = ![0, 0, (idx (ix1 0)).toInt, (idx (ix1 1)).toInt] a := by
  fin_cases a
  · rfl
  · rfl
  · show (idx (dRow.siIdx k _)).toInt = (idx (ix1 0)).toInt
    refine congrArg (fun q => (idx q).toInt) ?_
    funext b; fin_cases b <;> rfl
  · show (idx (dRow.siIdx k _)).toInt = (idx (ix1 1)).toInt
    refine congrArg (fun q => (idx q).toInt) ?_
    funext b; fin_cases b <;> rfl

abbrev dCol := scatter_S32x96x98x98_S2_S32x96x96x1_0123_n_23_0
theorem dCol_window (k : S32x96x96x1.Idx) (a : Fin 4) : dCol.window k a = ![(k 0).val, (k 1).val, (k 2).val, (k 3).val] a := by
  fin_cases a <;> rfl
theorem dCol_start (k : S32x96x96x1.Idx) (idx : IVec S2 32) (a : Fin 4) :
    dCol.start k idx a = ![0, 0, (idx (ix1 0)).toInt, (idx (ix1 1)).toInt] a := by
  fin_cases a
  · rfl
  · rfl
  · show (idx (dCol.siIdx k _)).toInt = (idx (ix1 0)).toInt
    refine congrArg (fun q => (idx q).toInt) ?_
    funext b; fin_cases b <;> rfl
  · show (idx (dCol.siIdx k _)).toInt = (idx (ix1 1)).toInt
    refine congrArg (fun q => (idx q).toInt) ?_
    funext b; fin_cases b <;> rfl

abbrev dTop := scatter_S32x96x98x98_S8x2_S8x96x1x98_123_0_02_1
theorem dTop_window (k : S8x96x1x98.Idx) (a : Fin 4) : dTop.window k a = ![0, (k 1).val, (k 2).val, (k 3).val] a := by
  fin_cases a <;> rfl
theorem dTop_start (k : S8x96x1x98.Idx) (idx : IVec S8x2 32) (a : Fin 4) :
    dTop.start k idx a = ![(idx (ix2 (k 0) 0)).toInt, 0, (idx (ix2 (k 0) 1)).toInt, 0] a := by
  fin_cases a
  · show (idx (dTop.siIdx k _)).toInt = (idx (ix2 (k 0) 0)).toInt
    refine congrArg (fun q => (idx q).toInt) ?_
    funext b; fin_cases b <;> rfl
  · rfl
  · show (idx (dTop.siIdx k _)).toInt = (idx (ix2 (k 0) 1)).toInt
    refine congrArg (fun q => (idx q).toInt) ?_
    funext b; fin_cases b <;> rfl
  · rfl

abbrev dBot := scatter_S32x96x98x98_S8x2_S8x96x98_12_02_02_1
theorem dBot_window (k : S8x96x98.Idx) (a : Fin 4) : dBot.window k a = ![0, (k 1).val, 0, (k 2).val] a := by
  fin_cases a <;> rfl
theorem dBot_start (k : S8x96x98.Idx) (idx : IVec S8x2 32) (a : Fin 4) :
    dBot.start k idx a = ![(idx (ix2 (k 0) 0)).toInt, 0, (idx (ix2 (k 0) 1)).toInt, 0] a := by
  fin_cases a
  · show (idx (dBot.siIdx k _)).toInt = (idx (ix2 (k 0) 0)).toInt
    refine congrArg (fun q => (idx q).toInt) ?_
    funext b; fin_cases b <;> rfl
  · rfl
  · show (idx (dBot.siIdx k _)).toInt = (idx (ix2 (k 0) 1)).toInt
    refine congrArg (fun q => (idx q).toInt) ?_
    funext b; fin_cases b <;> rfl
  · rfl

abbrev dSide := scatter_S32x96x98x98_S8x2_S8x96x98x1_123_0_03_1
theorem dSide_window (k : S8x96x98x1.Idx) (a : Fin 4) : dSide.window k a = ![0, (k 1).val, (k 2).val, (k 3).val] a := by
  fin_cases a <;> rfl
theorem dSide_start (k : S8x96x98x1.Idx) (idx : IVec S8x2 32) (a : Fin 4) :
    dSide.start k idx a = ![(idx (ix2 (k 0) 0)).toInt, 0, 0, (idx (ix2 (k 0) 1)).toInt] a := by
  fin_cases a
  · show (idx (dSide.siIdx k _)).toInt = (idx (ix2 (k 0) 0)).toInt
    refine congrArg (fun q => (idx q).toInt) ?_
    funext b; fin_cases b <;> rfl
  · rfl
  · rfl
  · show (idx (dSide.siIdx k _)).toInt = (idx (ix2 (k 0) 1)).toInt
    refine congrArg (fun q => (idx q).toInt) ?_
    funext b; fin_cases b <;> rfl

/-! ## What is put where -/

/-- A row of means is put into row `e`, from column 1 on. -/
theorem dRow_at (x0 : S32x96x98x98.Idx → EReal) (idx : IVec S2 32) (upd : S32x96x1x96.Idx → EReal) (e : ℕ) (h0 : (idx (ix1 0)).toInt = (e : ℤ)) (h1 : (idx (ix1 1)).toInt = 1)
    (n : Fin 32) (d : Fin 96) (i j : Fin 98) :
    Host.scatter dRow (fun _ b => b) x0 idx upd (ix4 n d i j)
      = if h : i.val = e ∧ 1 ≤ j.val ∧ j.val - 1 < 96 then upd (ix4 n d 0 ⟨j.val - 1, h.2.2⟩) else x0 (ix4 n d i j) := by
  have key : ∀ k : S32x96x1x96.Idx, dRow.resultIdx? k idx = some (ix4 n d i j) ↔
      (k 0).val = n.val ∧ (k 1).val = d.val ∧ (e : ℤ) + ((k 2).val : ℤ) = (i.val : ℤ) ∧ 1 + ((k 3).val : ℤ) = (j.val : ℤ) := by
    intro k
    rw [Routing.resultIdx?_eq_some, ← h0, ← h1]
    constructor
    · intro h
      have a0 := h 0; have a1 := h 1; have a2 := h 2; have a3 := h 3
      rw [dRow_start, dRow_window] at a0 a1 a2 a3
      change (0 : ℤ) + ((k 0).val : ℤ) = (n.val : ℤ) at a0
      change (0 : ℤ) + ((k 1).val : ℤ) = (d.val : ℤ) at a1
      exact ⟨by omega, by omega, a2, a3⟩
    · rintro ⟨a0, a1, a2, a3⟩ a
      rw [dRow_start, dRow_window]
      fin_cases a
      · show (0 : ℤ) + ((k 0).val : ℤ) = (n.val : ℤ); omega
      · show (0 : ℤ) + ((k 1).val : ℤ) = (d.val : ℤ); omega
      · exact a2
      · exact a3
  by_cases h : i.val = e ∧ 1 ≤ j.val ∧ j.val - 1 < 96
  · rw [dif_pos h]
    refine Routing.scatter_set_hit dRow x0 idx upd _ _ (fun k hk => ?_) (ix4 n d 0 ⟨j.val - 1, h.2.2⟩) ((key _).mpr ⟨rfl, rfl, ?_, ?_⟩)
    · obtain ⟨a0, a1, a2, a3⟩ := (key k).mp hk
      refine congrArg upd ?_
      have b2 : (k 2).val < 1 := (k 2).isLt
      have b3 : (k 3).val < 96 := (k 3).isLt
      funext a
      fin_cases a
      · exact Fin.ext a0
      · exact Fin.ext a1
      · refine Fin.ext (?_ : (k 2).val = _); show (k 2).val = 0; omega
      · refine Fin.ext (?_ : (k 3).val = _); show (k 3).val = j.val - 1; omega
    · show (e : ℤ) + ((0 : ℕ) : ℤ) = _; omega
    · show (1 : ℤ) + ((j.val - 1 : ℕ) : ℤ) = _; omega
  · rw [dif_neg h]
    refine Routing.scatter_set_miss dRow x0 idx upd _ fun k hk => h ?_
    obtain ⟨a0, a1, a2, a3⟩ := (key k).mp hk
    have b2 : (k 2).val < 1 := (k 2).isLt
    have b3 : (k 3).val < 96 := (k 3).isLt
    omega

/-- A column of means is put into column `e`, from row 1 on. -/
theorem dCol_at (x0 : S32x96x98x98.Idx → EReal) (idx : IVec S2 32) (upd : S32x96x96x1.Idx → EReal) (e : ℕ) (h0 : (idx (ix1 0)).toInt = 1) (h1 : (idx (ix1 1)).toInt = (e : ℤ))
    (n : Fin 32) (d : Fin 96) (i j : Fin 98) :
    Host.scatter dCol (fun _ b => b) x0 idx upd (ix4 n d i j)
      = if h : j.val = e ∧ 1 ≤ i.val ∧ i.val - 1 < 96 then upd (ix4 n d ⟨i.val - 1, h.2.2⟩ 0) else x0 (ix4 n d i j) := by
  have key : ∀ k : S32x96x96x1.Idx, dCol.resultIdx? k idx = some (ix4 n d i j) ↔
      (k 0).val = n.val ∧ (k 1).val = d.val ∧ 1 + ((k 2).val : ℤ) = (i.val : ℤ) ∧ (e : ℤ) + ((k 3).val : ℤ) = (j.val : ℤ) := by
    intro k
    rw [Routing.resultIdx?_eq_some, ← h0, ← h1]
    constructor
    · intro h
      have a0 := h 0; have a1 := h 1; have a2 := h 2; have a3 := h 3
      rw [dCol_start, dCol_window] at a0 a1 a2 a3
      change (0 : ℤ) + ((k 0).val : ℤ) = (n.val : ℤ) at a0
      change (0 : ℤ) + ((k 1).val : ℤ) = (d.val : ℤ) at a1
      exact ⟨by omega, by omega, a2, a3⟩
    · rintro ⟨a0, a1, a2, a3⟩ a
      rw [dCol_start, dCol_window]
      fin_cases a
      · show (0 : ℤ) + ((k 0).val : ℤ) = (n.val : ℤ); omega
      · show (0 : ℤ) + ((k 1).val : ℤ) = (d.val : ℤ); omega
      · exact a2
      · exact a3
  by_cases h : j.val = e ∧ 1 ≤ i.val ∧ i.val - 1 < 96
  · rw [dif_pos h]
    refine Routing.scatter_set_hit dCol x0 idx upd _ _ (fun k hk => ?_) (ix4 n d ⟨i.val - 1, h.2.2⟩ 0) ((key _).mpr ⟨rfl, rfl, ?_, ?_⟩)
    · obtain ⟨a0, a1, a2, a3⟩ := (key k).mp hk
      refine congrArg upd ?_
      have b2 : (k 2).val < 96 := (k 2).isLt
      have b3 : (k 3).val < 1 := (k 3).isLt
      funext a
      fin_cases a
      · exact Fin.ext a0
      · exact Fin.ext a1
      · refine Fin.ext (?_ : (k 2).val = _); show (k 2).val = i.val - 1; omega
      · refine Fin.ext (?_ : (k 3).val = _); show (k 3).val = 0; omega
    · show (1 : ℤ) + ((i.val - 1 : ℕ) : ℤ) = _; omega
    · show (e : ℤ) + ((0 : ℕ) : ℤ) = _; omega
  · rw [dif_neg h]
    refine Routing.scatter_set_miss dCol x0 idx upd _ fun k hk => h ?_
    obtain ⟨a0, a1, a2, a3⟩ := (key k).mp hk
    have b2 : (k 2).val < 96 := (k 2).isLt
    have b3 : (k 3).val < 1 := (k 3).isLt
    omega

/-- Row `e` of the patches of a list is cleared; so it is by the next, whose updates have no axis for the row; -/
theorem dTop_at (x0 : S32x96x98x98.Idx → EReal) (idx : IVec S8x2 32) (upd : S8x96x1x98.Idx → EReal) (f : ℕ → ℕ) (e : ℕ)
    (h0 : ∀ a : Fin 8, (idx (ix2 a 0)).toInt = (f a.val : ℤ)) (h1 : ∀ a : Fin 8, (idx (ix2 a 1)).toInt = (e : ℤ)) (hz : ∀ k, upd k = 0) (p : ℕ → Prop) [DecidablePred p]
    (hp : ∀ n, n < 32 → (p n ↔ ∃ a : Fin 8, f a.val = n)) (n : Fin 32) (d : Fin 96) (i j : Fin 98) :
    Host.scatter dTop (fun _ b => b) x0 idx upd (ix4 n d i j) = if i.val = e ∧ p n.val then 0 else x0 (ix4 n d i j) := by
  by_cases h : i.val = e ∧ p n.val
  · rw [if_pos h]
    obtain ⟨a, ha⟩ := (hp n.val n.isLt).mp h.2
    refine Routing.scatter_set_hit dTop x0 idx upd _ _ (fun k _ => hz k) (ix4 a d 0 j) ((Routing.resultIdx?_eq_some _ _ _ _).mpr fun b => ?_)
    have q0 := h0 a
    have q1 := h1 a
    rw [dTop_start, dTop_window]
    fin_cases b
    · show (idx (ix2 a 0)).toInt + ((0 : ℕ) : ℤ) = (n.val : ℤ); omega
    · show (0 : ℤ) + (d.val : ℤ) = (d.val : ℤ); omega
    · show (idx (ix2 a 1)).toInt + ((0 : ℕ) : ℤ) = (i.val : ℤ); omega
    · show (0 : ℤ) + (j.val : ℤ) = (j.val : ℤ); omega
  · rw [if_neg h]
    refine Routing.scatter_set_miss dTop x0 idx upd _ fun k hk => h ?_
    have hk' := (Routing.resultIdx?_eq_some _ _ _ _).mp hk
    have a0 := hk' 0
    have a2 := hk' 2
    rw [dTop_start, dTop_window] at a0 a2
    have q0 := h0 (k 0)
    have q1 := h1 (k 0)
    change (idx (ix2 (k 0) 0)).toInt + ((0 : ℕ) : ℤ) = (n.val : ℤ) at a0
    change (idx (ix2 (k 0) 1)).toInt + ((k 2).val : ℤ) = (i.val : ℤ) at a2
    have b : (k 2).val < 1 := (k 2).isLt
    refine ⟨?_, (hp n.val n.isLt).mpr ⟨k 0, ?_⟩⟩ <;> omega

/-- Row `e` of the patches of a list is cleared, by updates that have no axis for the row. -/
theorem dBot_at (x0 : S32x96x98x98.Idx → EReal) (idx : IVec S8x2 32) (upd : S8x96x98.Idx → EReal) (f : ℕ → ℕ) (e : ℕ)
    (h0 : ∀ a : Fin 8, (idx (ix2 a 0)).toInt = (f a.val : ℤ)) (h1 : ∀ a : Fin 8, (idx (ix2 a 1)).toInt = (e : ℤ)) (hz : ∀ k, upd k = 0) (p : ℕ → Prop) [DecidablePred p]
    (hp : ∀ n, n < 32 → (p n ↔ ∃ a : Fin 8, f a.val = n)) (n : Fin 32) (d : Fin 96) (i j : Fin 98) :
    Host.scatter dBot (fun _ b => b) x0 idx upd (ix4 n d i j) = if i.val = e ∧ p n.val then 0 else x0 (ix4 n d i j) := by
  by_cases h : i.val = e ∧ p n.val
  · rw [if_pos h]
    obtain ⟨a, ha⟩ := (hp n.val n.isLt).mp h.2
    refine Routing.scatter_set_hit dBot x0 idx upd _ _ (fun k _ => hz k) (ix3 a d j) ((Routing.resultIdx?_eq_some _ _ _ _).mpr fun b => ?_)
    have q0 := h0 a
    have q1 := h1 a
    rw [dBot_start, dBot_window]
    fin_cases b
    · show (idx (ix2 a 0)).toInt + ((0 : ℕ) : ℤ) = (n.val : ℤ); omega
    · show (0 : ℤ) + (d.val : ℤ) = (d.val : ℤ); omega
    · show (idx (ix2 a 1)).toInt + ((0 : ℕ) : ℤ) = (i.val : ℤ); omega
    · show (0 : ℤ) + (j.val : ℤ) = (j.val : ℤ); omega
  · rw [if_neg h]
    refine Routing.scatter_set_miss dBot x0 idx upd _ fun k hk => h ?_
    have hk' := (Routing.resultIdx?_eq_some _ _ _ _).mp hk
    have a0 := hk' 0
    have a2 := hk' 2
    rw [dBot_start, dBot_window] at a0 a2
    have q0 := h0 (k 0)
    have q1 := h1 (k 0)
    change (idx (ix2 (k 0) 0)).toInt + ((0 : ℕ) : ℤ) = (n.val : ℤ) at a0
    change (idx (ix2 (k 0) 1)).toInt + ((0 : ℕ) : ℤ) = (i.val : ℤ) at a2
    refine ⟨?_, (hp n.val n.isLt).mpr ⟨k 0, ?_⟩⟩ <;> omega

/-- Column `e` of the patches of a list is cleared. -/
theorem dSide_at (x0 : S32x96x98x98.Idx → EReal) (idx : IVec S8x2 32) (upd : S8x96x98x1.Idx → EReal) (f : ℕ → ℕ) (e : ℕ)
    (h0 : ∀ a : Fin 8, (idx (ix2 a 0)).toInt = (f a.val : ℤ)) (h1 : ∀ a : Fin 8, (idx (ix2 a 1)).toInt = (e : ℤ)) (hz : ∀ k, upd k = 0) (p : ℕ → Prop) [DecidablePred p]
    (hp : ∀ n, n < 32 → (p n ↔ ∃ a : Fin 8, f a.val = n)) (n : Fin 32) (d : Fin 96) (i j : Fin 98) :
    Host.scatter dSide (fun _ b => b) x0 idx upd (ix4 n d i j) = if j.val = e ∧ p n.val then 0 else x0 (ix4 n d i j) := by
  by_cases h : j.val = e ∧ p n.val
  · rw [if_pos h]
    obtain ⟨a, ha⟩ := (hp n.val n.isLt).mp h.2
    refine Routing.scatter_set_hit dSide x0 idx upd _ _ (fun k _ => hz k) (ix4 a d i 0) ((Routing.resultIdx?_eq_some _ _ _ _).mpr fun b => ?_)
    have q0 := h0 a
    have q1 := h1 a
    rw [dSide_start, dSide_window]
    fin_cases b
    · show (idx (ix2 a 0)).toInt + ((0 : ℕ) : ℤ) = (n.val : ℤ); omega
    · show (0 : ℤ) + (d.val : ℤ) = (d.val : ℤ); omega
    · show (0 : ℤ) + (i.val : ℤ) = (i.val : ℤ); omega
    · show (idx (ix2 a 1)).toInt + ((0 : ℕ) : ℤ) = (j.val : ℤ); omega
  · rw [if_neg h]
    refine Routing.scatter_set_miss dSide x0 idx upd _ fun k hk => h ?_
    have hk' := (Routing.resultIdx?_eq_some _ _ _ _).mp hk
    have a0 := hk' 0
    have a2 := hk' 3
    rw [dSide_start, dSide_window] at a0 a2
    have q0 := h0 (k 0)
    have q1 := h1 (k 0)
    change (idx (ix2 (k 0) 0)).toInt + ((0 : ℕ) : ℤ) = (n.val : ℤ) at a0
    change (idx (ix2 (k 0) 1)).toInt + ((k 3).val : ℤ) = (j.val : ℤ) at a2
    have b : (k 3).val < 1 := (k 3).isLt
    refine ⟨?_, (hp n.val n.isLt).mpr ⟨k 0, ?_⟩⟩ <;> omega

end Cert.ReferenceIdeal.Pad

end
-- ==== Proof.RefValue.lean ====
/-
  What the reference leaves in its result, index by index.
-/
module

public import proofs.«01_k».proof.Proof.RefRun
public import proofs.«01_k».proof.Proof.RefPad
public import proofs.«01_k».proof.Proof.RefParts
public import proofs.«01_k».proof.Proof.RefScatter
public import proofs.«01_k».proof.Proof.Spec
public import Idealize.ShloMosaic.Lib.StableHlo.ReadAt
public import Idealize.ShloMosaic.Lib.Pointwise
public import Idealize.ShloMosaic.Lib.Tactic.WordOmega
public import Idealize.ShloMosaic.Lib.Routing.OpsPair
public import Idealize.ShloMosaic.Lib.Routing.OpsSet

@[expose] public section

noncomputable section

namespace Cert.ReferenceIdeal.Pad

open Cert.ReferenceIdeal Cert.ReferenceIdeal.Gen
open Idealize.ShloMosaic Idealize.ShloMosaic.TcCoe Idealize.ShloMosaic.StableHlo

variable (W : Valuation τ sig (Elt Ideal))

/-! ## The scatters in order -/

theorem step68 : (after line W (Proc.devRef .tc main_v68) : S32x96x98x98.Idx → EReal)
    = Host.scatter dRow (fun _ b => b) (after line W (Proc.devRef .tc main_v64) : S32x96x98x98.Idx → EReal) (after line W (Proc.devRef .tc main_v67)) (after line W (Proc.devRef .tc main_v44)) := by
  after_reads_simp; rfl
theorem step72 : (after line W (Proc.devRef .tc main_v72) : S32x96x98x98.Idx → EReal)
    = Host.scatter dRow (fun _ b => b) (after line W (Proc.devRef .tc main_v68) : S32x96x98x98.Idx → EReal) (after line W (Proc.devRef .tc main_v71)) (after line W (Proc.devRef .tc main_v53)) := by
  after_reads_simp; rfl
theorem step76 : (after line W (Proc.devRef .tc main_v76) : S32x96x98x98.Idx → EReal)
    = Host.scatter dCol (fun _ b => b) (after line W (Proc.devRef .tc main_v72) : S32x96x98x98.Idx → EReal) (after line W (Proc.devRef .tc main_v75)) (after line W (Proc.devRef .tc main_v58)) := by
  after_reads_simp; rfl
theorem step80 : (after line W (Proc.devRef .tc main_v80) : S32x96x98x98.Idx → EReal)
    = Host.scatter dCol (fun _ b => b) (after line W (Proc.devRef .tc main_v76) : S32x96x98x98.Idx → EReal) (after line W (Proc.devRef .tc main_v79)) (after line W (Proc.devRef .tc main_v63)) := by
  after_reads_simp; rfl
theorem step90 : (after line W (Proc.devRef .tc main_v90) : S32x96x98x98.Idx → EReal)
    = Host.scatter dTop (fun _ b => b) (after line W (Proc.devRef .tc main_v80) : S32x96x98x98.Idx → EReal) (after line W (Proc.devRef .tc main_v88)) (after line W (Proc.devRef .tc main_v89)) := by
  after_reads_simp; rfl
theorem step102 : (after line W (Proc.devRef .tc main_v102) : S32x96x98x98.Idx → EReal)
    = Host.scatter dBot (fun _ b => b) (after line W (Proc.devRef .tc main_v90) : S32x96x98x98.Idx → EReal) (after line W (Proc.devRef .tc main_v100)) (after line W (Proc.devRef .tc main_v101)) := by
  after_reads_simp; rfl
theorem step112 : (after line W (Proc.devRef .tc main_v112) : S32x96x98x98.Idx → EReal)
    = Host.scatter dSide (fun _ b => b) (after line W (Proc.devRef .tc main_v102) : S32x96x98x98.Idx → EReal) (after line W (Proc.devRef .tc main_v110)) (after line W (Proc.devRef .tc main_v111)) := by
  after_reads_simp; rfl
theorem step122 : (after line W (Proc.devRef .tc main_v122) : S32x96x98x98.Idx → EReal)
    = Host.scatter dSide (fun _ b => b) (after line W (Proc.devRef .tc main_v112) : S32x96x98x98.Idx → EReal) (after line W (Proc.devRef .tc main_v120)) (after line W (Proc.devRef .tc main_v121)) := by
  after_reads_simp; rfl

variable (n : Fin 32) (d : Fin 96) (i j : Fin 98)

open Cert.Pad in
/-- The four means, one after the other. -/
theorem put68 : (after line W (Proc.devRef .tc main_v68) : S32x96x98x98.Idx → EReal) (ix4 n d i j)
    = if i.val = 0 ∧ 1 ≤ j.val ∧ j.val - 1 < 96 then avg (row (X W) n d 0) (j.val - 1) else X W (ix4 n d (near i.val) (near j.val)) :=
  (congrFun (step68 W) _).trans ((dRow_at _ _ _ 0 (place67_0 W) (place67_1 W) n d i j).trans
    (dite_congr rfl (fun h => mean44 W n d ⟨j.val - 1, h.2.2⟩) (fun _ => at64 W n d i j)))
open Cert.Pad in
theorem put72 : (after line W (Proc.devRef .tc main_v72) : S32x96x98x98.Idx → EReal) (ix4 n d i j)
    = if i.val = 97 ∧ 1 ≤ j.val ∧ j.val - 1 < 96 then avg (row (X W) n d 95) (j.val - 1) else (after line W (Proc.devRef .tc main_v68) : S32x96x98x98.Idx → EReal) (ix4 n d i j) :=
  (congrFun (step72 W) _).trans ((dRow_at _ _ _ 97 (place71_0 W) (place71_1 W) n d i j).trans
    (dite_congr rfl (fun h => mean53 W n d ⟨j.val - 1, h.2.2⟩) (fun _ => rfl)))
open Cert.Pad in
theorem put76 : (after line W (Proc.devRef .tc main_v76) : S32x96x98x98.Idx → EReal) (ix4 n d i j)
    = if h : j.val = 0 ∧ 1 ≤ i.val ∧ i.val - 1 < 96 then avg (row (X W) n d ⟨i.val - 1, h.2.2⟩) 0 else (after line W (Proc.devRef .tc main_v72) : S32x96x98x98.Idx → EReal) (ix4 n d i j) :=
  (congrFun (step76 W) _).trans ((dCol_at _ _ _ 0 (place75_0 W) (place75_1 W) n d i j).trans
    (dite_congr rfl (fun h => mean58 W n d ⟨i.val - 1, h.2.2⟩) (fun _ => rfl)))
open Cert.Pad in
theorem put80 : (after line W (Proc.devRef .tc main_v80) : S32x96x98x98.Idx → EReal) (ix4 n d i j)
    = if h : j.val = 97 ∧ 1 ≤ i.val ∧ i.val - 1 < 96 then avg (row (X W) n d ⟨i.val - 1, h.2.2⟩) 93 else (after line W (Proc.devRef .tc main_v76) : S32x96x98x98.Idx → EReal) (ix4 n d i j) :=
  (congrFun (step80 W) _).trans ((dCol_at _ _ _ 97 (place79_0 W) (place79_1 W) n d i j).trans
    (dite_congr rfl (fun h => mean63 W n d ⟨i.val - 1, h.2.2⟩) (fun _ => rfl)))

open Cert.Pad in
/-- After them each patch is padded. -/
theorem at80 : (after line W (Proc.devRef .tc main_v80) : S32x96x98x98.Idx → EReal) (ix4 n d i j) = whole (X W) n d i.val j.val := by
  have hi := i.isLt
  have hj := j.isLt
  rw [put80, put76, put72, put68]
  unfold whole edgeRow midRow
  by_cases c1 : j.val = 97 ∧ 1 ≤ i.val ∧ i.val - 1 < 96
  · rw [dif_pos c1, if_neg (by omega), if_neg (by omega), dif_pos c1.2.2, if_neg (by omega), if_pos c1.1]
  rw [dif_neg c1]
  by_cases c2 : j.val = 0 ∧ 1 ≤ i.val ∧ i.val - 1 < 96
  · rw [dif_pos c2, if_neg (by omega), if_neg (by omega), dif_pos c2.2.2, if_pos c2.1]
  rw [dif_neg c2]
  by_cases c3 : i.val = 97 ∧ 1 ≤ j.val ∧ j.val - 1 < 96
  · rw [if_pos c3, if_neg (by omega), if_pos c3.1, if_neg (by omega), if_neg (by omega)]
  rw [if_neg c3]
  by_cases c4 : i.val = 0 ∧ 1 ≤ j.val ∧ j.val - 1 < 96
  · rw [if_pos c4, if_pos c4.1, if_neg (by omega), if_neg (by omega)]
  rw [if_neg c4]
  by_cases i0 : i.val = 0
  · rw [if_pos i0]
    by_cases j0 : j.val = 0
    · rw [if_pos j0, i0, j0]; rfl
    · have j97 : j.val = 97 := by omega
      rw [if_neg j0, if_pos j97, i0, j97]; rfl
  by_cases i97 : i.val = 97
  · rw [if_neg i0, if_pos i97]
    by_cases j0 : j.val = 0
    · rw [if_pos j0, i97, j0]; rfl
    · have j97 : j.val = 97 := by omega
      rw [if_neg j0, if_pos j97, i97, j97]; rfl
  · have hi' : i.val - 1 < 96 := by omega
    have hj' : j.val - 1 < 96 := by omega
    rw [if_neg i0, if_neg i97, dif_pos hi', if_neg (by omega), if_neg (by omega), ← near_mid hi', ← near_mid hj']
    exact (row_at _ _ _ _ _).symm

/-- The four clearings, one after the other. -/
theorem clear90 : (after line W (Proc.devRef .tc main_v90) : S32x96x98x98.Idx → EReal) (ix4 n d i j)
    = if i.val = 0 ∧ n.val % 16 < 4 then (0 : EReal) else (after line W (Proc.devRef .tc main_v80) : S32x96x98x98.Idx → EReal) (ix4 n d i j) :=
  (congrFun (step90 W) _).trans (dTop_at _ _ _ (fun a => a % 4 + 16 * (a / 4)) 0 (list88_0 W) (list88_1 W) (zero89 W) (fun n => n % 16 < 4)
    (fun n hn => ⟨fun h => ⟨⟨n % 4 + 4 * (n / 16), by omega⟩, by show (n % 4 + 4 * (n / 16)) % 4 + 16 * ((n % 4 + 4 * (n / 16)) / 4) = n; omega⟩, fun ⟨a, ha⟩ => by have := a.isLt; omega⟩) n d i j)
theorem clear102 : (after line W (Proc.devRef .tc main_v102) : S32x96x98x98.Idx → EReal) (ix4 n d i j)
    = if i.val = 97 ∧ 12 ≤ n.val % 16 then (0 : EReal) else (after line W (Proc.devRef .tc main_v90) : S32x96x98x98.Idx → EReal) (ix4 n d i j) :=
  (congrFun (step102 W) _).trans (dBot_at _ _ _ (fun a => 12 + a % 4 + 16 * (a / 4)) 97 (list100_0 W) (list100_1 W) (zero101 W) (fun n => 12 ≤ n % 16)
    (fun n hn => ⟨fun h => ⟨⟨n % 4 + 4 * (n / 16), by omega⟩, by show 12 + (n % 4 + 4 * (n / 16)) % 4 + 16 * ((n % 4 + 4 * (n / 16)) / 4) = n; omega⟩, fun ⟨a, ha⟩ => by have := a.isLt; omega⟩) n d i j)
theorem clear112 : (after line W (Proc.devRef .tc main_v112) : S32x96x98x98.Idx → EReal) (ix4 n d i j)
    = if j.val = 0 ∧ n.val % 4 = 0 then (0 : EReal) else (after line W (Proc.devRef .tc main_v102) : S32x96x98x98.Idx → EReal) (ix4 n d i j) :=
  (congrFun (step112 W) _).trans (dSide_at _ _ _ (fun a => 4 * a) 0 (list110_0 W) (list110_1 W) (zero111 W) (fun n => n % 4 = 0)
    (fun n hn => ⟨fun h => ⟨⟨n / 4, by omega⟩, by show 4 * (n / 4) = n; omega⟩, fun ⟨a, ha⟩ => by have := a.isLt; omega⟩) n d i j)
theorem clear122 : (after line W (Proc.devRef .tc main_v122) : S32x96x98x98.Idx → EReal) (ix4 n d i j)
    = if j.val = 97 ∧ n.val % 4 = 3 then (0 : EReal) else (after line W (Proc.devRef .tc main_v112) : S32x96x98x98.Idx → EReal) (ix4 n d i j) :=
  (congrFun (step122 W) _).trans (dSide_at _ _ _ (fun a => 3 + 4 * a) 97 (list120_0 W) (list120_1 W) (zero121 W) (fun n => n % 4 = 3)
    (fun n hn => ⟨fun h => ⟨⟨n / 4, by omega⟩, by show 3 + 4 * (n / 4) = n; omega⟩, fun ⟨a, ha⟩ => by have := a.isLt; omega⟩) n d i j)

/-- After them the batch is padded. -/
theorem at122 : (after line W (Proc.devRef .tc main_v122) : S32x96x98x98.Idx → EReal) (ix4 n d i j) = Cert.Pad.padded (X W) n d i j := by
  rw [clear122, clear112, clear102, clear90, at80]
  unfold Cert.Pad.padded Cert.Pad.offCol Cert.Pad.offRow
  by_cases c1 : j.val = 97 ∧ n.val % 4 = 3
  · rw [if_pos c1, if_pos (by omega)]
  rw [if_neg c1]
  by_cases c2 : j.val = 0 ∧ n.val % 4 = 0
  · rw [if_pos c2, if_pos (by omega)]
  rw [if_neg c2]
  by_cases c3 : i.val = 97 ∧ 12 ≤ n.val % 16
  · rw [if_pos c3, if_pos (by omega)]
  rw [if_neg c3]
  by_cases c4 : i.val = 0 ∧ n.val % 16 < 4
  · rw [if_pos c4, if_pos (by omega)]
  rw [if_neg c4, if_neg (by omega)]

/-- The reference's result is the padded batch. -/
theorem out_eq : (after line W (Proc.devRef .tc main_v122) : S32x96x98x98.Idx → EReal) = fun y => Cert.Pad.padded (X W) (y 0) (y 1) (y 2) (y 3) := by
  funext y
  obtain ⟨n, d, i, j, rfl⟩ : ∃ (n : Fin 32) (d : Fin 96) (i j : Fin 98), y = ix4 n d i j := ⟨y 0, y 1, y 2, y 3, by funext a; fin_cases a <;> rfl⟩
  exact at122 W n d i j

end Cert.ReferenceIdeal.Pad

end
-- ==== Proof.lean ====
/-
  The proof of `Cert.Claim`: each program's run from its own module, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frame
public import proofs.«01_k».proof.Proof.ValueIdeal
public import proofs.«01_k».proof.Proof.RefValue
public import Idealize.ShloMosaic.Adequacy
public import Idealize.ShloMosaic.Init

@[expose] public section

noncomputable section

namespace Cert.Proof

open Idealize.ShloMosaic Idealize.SL.Sem

/-- The kernel as printed runs, leaves its argument alone and its semaphores at zero. -/
theorem frame_kernel : Cert.quiescent_Kernel := fun m g _ =>
  (θ_run _ _ _).mono (fun _ h => ⟨fun c => (h.1 c).1, h.2⟩) (Cert.Kernel.Pad.run_main m g)

/-- So does the kernel over the extended reals. -/
theorem frame_ideal : Cert.quiescent_KernelIdeal := fun m g _ =>
  (θ_run _ _ _).mono (fun _ h => ⟨fun c => (h.1 c).1, h.2⟩) (Cert.KernelIdeal.Pad.run_main m g)

/-- So does the reference over the extended reals. -/
theorem frame_ref : Cert.quiescent_ReferenceIdeal := fun m g _ =>
  (θ_run _ _ _).mono (fun _ h => ⟨fun c => (h.1 c Cert.ReferenceIdeal.main_arg0).trans
    (Cert.ReferenceIdeal.Pad.arg0_eq _), h.2⟩) (Cert.ReferenceIdeal.Pad.run_main m g)

/-- From one batch of patches the kernel and the reference leave the same padded batch over the extended reals. -/
theorem values : Cert.algebraic_KernelIdeal_ReferenceIdeal := by
  intro m g m' g' _ hx
  refine ⟨fun c => Cert.KernelIdeal.Pad.res m c, ?_, ?_⟩
  · exact (θ_run _ _ _).mono (fun _ h c => ⟨(h.1 c).2, (h.1 c).1⟩) (Cert.KernelIdeal.Pad.run_main m g)
  · refine (θ_run _ _ _).mono (fun _ h c => ⟨?_, ?_⟩) (Cert.ReferenceIdeal.Pad.run_main m' g')
    · refine (h.1 c Cert.ReferenceIdeal.main_v122).trans ((Cert.ReferenceIdeal.Pad.out_eq _).trans ?_)
      refine Eq.trans ?_ (Cert.KernelIdeal.Pad.res_eq m c).symm
      exact congrArg (fun x : Cert.Pad.Patches => fun y : Cert.Pad.PaddedIdx => Cert.Pad.padded x (y 0) (y 1) (y 2) (y 3)) (hx c)
    · exact (h.1 c Cert.ReferenceIdeal.main_arg0).trans (Cert.ReferenceIdeal.Pad.arg0_eq _)

/-- The whole claim. -/
theorem claim : Cert.Claim :=
  ⟨Cert.Kernel.Gen.facts, Cert.KernelIdeal.Gen.facts, Cert.ReferenceIdeal.Gen.facts,
    frame_kernel, frame_ideal, frame_ref, trivial, values⟩

end Cert.Proof

end
